-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v166) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S10000x128 : Shape := ⟨2, ![10000, 128]⟩
abbrev S10000x3 : Shape := ⟨2, ![10000, 3]⟩
abbrev S2x160000 : Shape := ⟨2, ![2, 160000]⟩
abbrev S128x32 : Shape := ⟨2, ![128, 32]⟩
abbrev S32x16 : Shape := ⟨2, ![32, 16]⟩
abbrev S16x2048 : Shape := ⟨2, ![16, 2048]⟩
abbrev S16x3584 : Shape := ⟨2, ![16, 3584]⟩
abbrev S_ : Shape := ⟨0, ![]⟩

class Facts : Prop where
  bcast_S_S2x160000 : S_.BroadcastsInDim S2x160000 (![] : Fin 0 → Fin S2x160000.rank)
  reducesTo_S2x160000_S_d0_1 : S2x160000.ReducesTo [0, 1] S_
  h_S_ : 0 < S_.numel

variable [Facts]

def fn {F : FTy → Type} [FloatOps F] (main_arg0 : FVec F S10000x128 .f32) (main_arg1 : FVec F S10000x3 .f32) (main_arg2 : IVec S2x160000 32) (main_arg3 : FVec F S128x32 .f32) (main_arg4 : FVec F S32x16 .f32) (main_arg5 : FVec F S32x16 .f32) (main_arg6 : FVec F S32x16 .f32) (main_arg7 : FVec F S16x2048 .f32) (main_arg8 : FVec F S32x16 .f32) (main_arg9 : FVec F S16x3584 .f32) : IVec S_ 1 :=
  let main_c : IVec S_ 32 := constantI S_ 32 0#32
  let main_v0 : IVec S2x160000 32 := broadcastInDim S2x160000 ![] bcast_S_S2x160000 main_c
  let main_v1 : IVec S2x160000 1 := cmpi .sge main_arg2 main_v0
  let main_c_0 : IVec S_ 32 := constantI S_ 32 10000#32
  let main_v2 : IVec S2x160000 32 := broadcastInDim S2x160000 ![] bcast_S_S2x160000 main_c_0
  let main_v3 : IVec S2x160000 1 := cmpi .slt main_arg2 main_v2
  let main_v4 : IVec S2x160000 1 := andi main_v1 main_v3
  let main_c_1 : IVec S_ 1 := constantI S_ 1 1#1
  let main_v5 : IVec S_ 1 := (fun x v => Host.reduce IntOp.andi x v reducesTo_S2x160000_S_d0_1 h_S_) main_v4 main_c_1
  main_v5
-- ==== Kernel.lean ====
abbrev S10000x128 : Shape := ⟨2, ![10000, 128]⟩
abbrev S10000x3 : Shape := ⟨2, ![10000, 3]⟩
abbrev S2x160000 : Shape := ⟨2, ![2, 160000]⟩
abbrev S128x32 : Shape := ⟨2, ![128, 32]⟩
abbrev S32x16 : Shape := ⟨2, ![32, 16]⟩
abbrev S16x2048 : Shape := ⟨2, ![16, 2048]⟩
abbrev S16x3584 : Shape := ⟨2, ![16, 3584]⟩
abbrev S8x24 : Shape := ⟨2, ![8, 24]⟩
abbrev S3x24 : Shape := ⟨2, ![3, 24]⟩
abbrev S4x20 : Shape := ⟨2, ![4, 20]⟩
abbrev S5x20 : Shape := ⟨2, ![5, 20]⟩
abbrev S1x160000 : Shape := ⟨2, ![1, 160000]⟩
abbrev S160000 : Shape := ⟨1, ![160000]⟩
abbrev S10000x32 : Shape := ⟨2, ![10000, 32]⟩
abbrev S2000x128 : Shape := ⟨2, ![2000, 128]⟩
abbrev S2000x32 : Shape := ⟨2, ![2000, 32]⟩
abbrev S_ : Shape := ⟨0, ![]⟩
abbrev S160000x1 : Shape := ⟨2, ![160000, 1]⟩
abbrev S1 : Shape := ⟨1, ![1]⟩
abbrev S1x1 : Shape := ⟨2, ![1, 1]⟩
abbrev S160000x128 : Shape := ⟨2, ![160000, 128]⟩
abbrev S160000x32 : Shape := ⟨2, ![160000, 32]⟩
abbrev S160000x3 : Shape := ⟨2, ![160000, 3]⟩
abbrev S16x128x16 : Shape := ⟨3, ![16, 128, 16]⟩
abbrev S128x16x16 : Shape := ⟨3, ![128, 16, 16]⟩
abbrev S128x256 : Shape := ⟨2, ![128, 256]⟩
abbrev S16x128x28 : Shape := ⟨3, ![16, 128, 28]⟩
abbrev S128x16x28 : Shape := ⟨3, ![128, 16, 28]⟩
abbrev S128x448 : Shape := ⟨2, ![128, 448]⟩
abbrev S160000x60 : Shape := ⟨2, ![160000, 60]⟩
abbrev S80x1x1 : Shape := ⟨3, ![80, 1, 1]⟩
abbrev S2000x3 : Shape := ⟨2, ![2000, 3]⟩
abbrev S2000x1 : Shape := ⟨2, ![2000, 1]⟩
abbrev S2000x60 : Shape := ⟨2, ![2000, 60]⟩
abbrev S1x1x1 : Shape := ⟨3, ![1, 1, 1]⟩
abbrev S2000 : Shape := ⟨1, ![2000]⟩
abbrev S2000x5 : Shape := ⟨2, ![2000, 5]⟩
abbrev S1x32 : Shape := ⟨2, ![1, 32]⟩
abbrev S2000x16 : Shape := ⟨2, ![2000, 16]⟩
abbrev S2000x256 : Shape := ⟨2, ![2000, 256]⟩
abbrev S2000x448 : Shape := ⟨2, ![2000, 448]⟩
abbrev S2000x28 : Shape := ⟨2, ![2000, 28]⟩
abbrev S2000x8 : Shape := ⟨2, ![2000, 8]⟩
abbrev S2000x4 : Shape := ⟨2, ![2000, 4]⟩
abbrev S2000x24 : Shape := ⟨2, ![2000, 24]⟩
abbrev S2000x20 : Shape := ⟨2, ![2000, 20]⟩
abbrev S1x2000x1 : Shape := ⟨3, ![1, 2000, 1]⟩
abbrev S80x1x2000 : Shape := ⟨3, ![80, 1, 2000]⟩
abbrev S10000x64 : Shape := ⟨2, ![10000, 64]⟩
abbrev S1x1x2000 : Shape := ⟨3, ![1, 1, 2000]⟩
abbrev S2000x64 : Shape := ⟨2, ![2000, 64]⟩
abbrev S4x10000x64 : Shape := ⟨3, ![4, 10000, 64]⟩
abbrev S1x1x64 : Shape := ⟨3, ![1, 1, 64]⟩
abbrev S1x64 : Shape := ⟨2, ![1, 64]⟩
abbrev S1x10000x64 : Shape := ⟨3, ![1, 10000, 64]⟩
abbrev S10000x1 : Shape := ⟨2, ![10000, 1]⟩
abbrev S10000x60 : Shape := ⟨2, ![10000, 60]⟩

abbrev nBuf : Space → Nat
  | .hbm => 133
  | .vmem => 34
  | .smem => 3
  | _ => 0

abbrev hbmTy0_0 (i : Nat) : BufTy := match i % 128 with
  | 0 => ⟨S10000x128, .f32⟩
  | 1 => ⟨S10000x3, .f32⟩
  | 2 => ⟨S2x160000, .i32⟩
  | 3 => ⟨S128x32, .f32⟩
  | 4 => ⟨S32x16, .f32⟩
  | 5 => ⟨S32x16, .f32⟩
  | 6 => ⟨S32x16, .f32⟩
  | 7 => ⟨S16x2048, .f32⟩
  | 8 => ⟨S32x16, .f32⟩
  | 9 => ⟨S16x3584, .f32⟩
  | 10 => ⟨S8x24, .f32⟩
  | 11 => ⟨S3x24, .f32⟩
  | 12 => ⟨S4x20, .f32⟩
  | 13 => ⟨S5x20, .f32⟩
  | 14 => ⟨S1x160000, .i32⟩
  | 15 => ⟨S160000, .i32⟩
  | 16 => ⟨S1x160000, .i32⟩
  | 17 => ⟨S160000, .i32⟩
  | 18 => ⟨S10000x32, .f32⟩
  | 19 => ⟨S_, .i32⟩
  | 20 => ⟨S160000, .i32⟩
  | 21 => ⟨S160000, .i1⟩
  | 22 => ⟨S_, .i32⟩
  | 23 => ⟨S160000, .i32⟩
  | 24 => ⟨S160000, .i32⟩
  | 25 => ⟨S160000, .i32⟩
  | 26 => ⟨S160000x1, .i32⟩
  | 27 => ⟨S1, .i32⟩
  | 28 => ⟨S_, .i32⟩
  | 29 => ⟨S160000x1, .i32⟩
  | 30 => ⟨S160000x1, .i1⟩
  | 31 => ⟨S1x1, .i32⟩
  | 32 => ⟨S160000x1, .i32⟩
  | 33 => ⟨S160000x1, .i1⟩
  | 34 => ⟨S160000x1, .i1⟩
  | 35 => ⟨S_, .i1⟩
  | 36 => ⟨S160000, .i1⟩
  | 37 => ⟨S160000x128, .f32⟩
  | 38 => ⟨S160000x128, .i1⟩
  | 39 => ⟨S_, .f32⟩
  | 40 => ⟨S160000x128, .f32⟩
  | 41 => ⟨S160000x128, .f32⟩
  | 42 => ⟨S_, .i32⟩
  | 43 => ⟨S160000, .i32⟩
  | 44 => ⟨S160000, .i1⟩
  | 45 => ⟨S_, .i32⟩
  | 46 => ⟨S160000, .i32⟩
  | 47 => ⟨S160000, .i32⟩
  | 48 => ⟨S160000, .i32⟩
  | 49 => ⟨S160000x1, .i32⟩
  | 50 => ⟨S1, .i32⟩
  | 51 => ⟨S_, .i32⟩
  | 52 => ⟨S160000x1, .i32⟩
  | 53 => ⟨S160000x1, .i1⟩
  | 54 => ⟨S1x1, .i32⟩
  | 55 => ⟨S160000x1, .i32⟩
  | 56 => ⟨S160000x1, .i1⟩
  | 57 => ⟨S160000x1, .i1⟩
  | 58 => ⟨S_, .i1⟩
  | 59 => ⟨S160000, .i1⟩
  | 60 => ⟨S160000x32, .f32⟩
  | 61 => ⟨S160000x32, .i1⟩
  | 62 => ⟨S_, .f32⟩
  | 63 => ⟨S160000x32, .f32⟩
  | 64 => ⟨S160000x32, .f32⟩
  | 65 => ⟨S_, .i32⟩
  | 66 => ⟨S160000, .i32⟩
  | 67 => ⟨S160000, .i1⟩
  | 68 => ⟨S_, .i32⟩
  | 69 => ⟨S160000, .i32⟩
  | 70 => ⟨S160000, .i32⟩
  | 71 => ⟨S160000, .i32⟩
  | 72 => ⟨S160000x1, .i32⟩
  | 73 => ⟨S1, .i32⟩
  | 74 => ⟨S_, .i32⟩
  | 75 => ⟨S160000x1, .i32⟩
  | 76 => ⟨S160000x1, .i1⟩
  | 77 => ⟨S1x1, .i32⟩
  | 78 => ⟨S160000x1, .i32⟩
  | 79 => ⟨S160000x1, .i1⟩
  | 80 => ⟨S160000x1, .i1⟩
  | 81 => ⟨S_, .i1⟩
  | 82 => ⟨S160000, .i1⟩
  | 83 => ⟨S160000x3, .f32⟩
  | 84 => ⟨S160000x3, .i1⟩
  | 85 => ⟨S_, .f32⟩
  | 86 => ⟨S160000x3, .f32⟩
  | 87 => ⟨S160000x3, .f32⟩
  | 88 => ⟨S_, .i32⟩
  | 89 => ⟨S160000, .i32⟩
  | 90 => ⟨S160000, .i1⟩
  | 91 => ⟨S_, .i32⟩
  | 92 => ⟨S160000, .i32⟩
  | 93 => ⟨S160000, .i32⟩
  | 94 => ⟨S160000, .i32⟩
  | 95 => ⟨S160000x1, .i32⟩
  | 96 => ⟨S1, .i32⟩
  | 97 => ⟨S_, .i32⟩
  | 98 => ⟨S160000x1, .i32⟩
  | 99 => ⟨S160000x1, .i1⟩
  | 100 => ⟨S1x1, .i32⟩
  | 101 => ⟨S160000x1, .i32⟩
  | 102 => ⟨S160000x1, .i1⟩
  | 103 => ⟨S160000x1, .i1⟩
  | 104 => ⟨S_, .i1⟩
  | 105 => ⟨S160000, .i1⟩
  | 106 => ⟨S160000x3, .f32⟩
  | 107 => ⟨S160000x3, .i1⟩
  | 108 => ⟨S_, .f32⟩
  | 109 => ⟨S160000x3, .f32⟩
  | 110 => ⟨S160000x3, .f32⟩
  | 111 => ⟨S160000x3, .f32⟩
  | 112 => ⟨S16x128x16, .f32⟩
  | 113 => ⟨S_, .f32⟩
  | 114 => ⟨S16x128x16, .f32⟩
  | 115 => ⟨S16x128x16, .f32⟩
  | 116 => ⟨S128x16x16, .f32⟩
  | 117 => ⟨S128x256, .f32⟩
  | 118 => ⟨S16x128x28, .f32⟩
  | 119 => ⟨S_, .f32⟩
  | 120 => ⟨S16x128x28, .f32⟩
  | 121 => ⟨S16x128x28, .f32⟩
  | 122 => ⟨S128x16x28, .f32⟩
  | 123 => ⟨S128x448, .f32⟩
  | 124 => ⟨S160000x1, .f32⟩
  | 125 => ⟨S160000x60, .f32⟩
  | 126 => ⟨S80x1x1, .f32⟩
  | 127 => ⟨S_, .f32⟩
  | _ => ⟨S10000x128, .f32⟩

abbrev hbmTy0_1 (i : Nat) : BufTy := match i % 128 with
  | 0 => ⟨S_, .f32⟩
  | 1 => ⟨S1x1, .f32⟩
  | 2 => ⟨S80x1x2000, .i32⟩
  | 3 => ⟨S10000x64, .f32⟩
  | 4 => ⟨S10000x60, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x32, .f32⟩
  | .local _ .vmem, ⟨3, _⟩ => ⟨S2000x32, .f32⟩
  | .local _ .vmem, ⟨4, _⟩ => ⟨S2000x32, .f32⟩
  | .local _ .vmem, ⟨5, _⟩ => ⟨S2000x3, .f32⟩
  | .local _ .vmem, ⟨6, _⟩ => ⟨S2000x3, .f32⟩
  | .local _ .vmem, ⟨7, _⟩ => ⟨S2000x128, .f32⟩
  | .local _ .vmem, ⟨8, _⟩ => ⟨S2000x128, .f32⟩
  | .local _ .vmem, ⟨9, _⟩ => ⟨S2000x32, .f32⟩
  | .local _ .vmem, ⟨10, _⟩ => ⟨S2000x32, .f32⟩
  | .local _ .vmem, ⟨11, _⟩ => ⟨S128x256, .f32⟩
  | .local _ .vmem, ⟨12, _⟩ => ⟨S128x448, .f32⟩
  | .local _ .vmem, ⟨13, _⟩ => ⟨S32x16, .f32⟩
  | .local _ .vmem, ⟨14, _⟩ => ⟨S32x16, .f32⟩
  | .local _ .vmem, ⟨15, _⟩ => ⟨S32x16, .f32⟩
  | .local _ .vmem, ⟨16, _⟩ => ⟨S32x16, .f32⟩
  | .local _ .vmem, ⟨17, _⟩ => ⟨S8x24, .f32⟩
  | .local _ .vmem, ⟨18, _⟩ => ⟨S3x24, .f32⟩
  | .local _ .vmem, ⟨19, _⟩ => ⟨S4x20, .f32⟩
  | .local _ .vmem, ⟨20, _⟩ => ⟨S5x20, .f32⟩
  | .local _ .vmem, ⟨21, _⟩ => ⟨S2000x1, .f32⟩
  | .local _ .vmem, ⟨22, _⟩ => ⟨S2000x1, .f32⟩
  | .local _ .vmem, ⟨23, _⟩ => ⟨S2000x60, .f32⟩
  | .local _ .vmem, ⟨24, _⟩ => ⟨S2000x60, .f32⟩
  | .local _ .vmem, ⟨25, _⟩ => ⟨S1x1x1, .f32⟩
  | .local _ .vmem, ⟨26, _⟩ => ⟨S1x1x1, .f32⟩
  | .local _ .vmem, ⟨27, _⟩ => ⟨S2000x1, .f32⟩
  | .local _ .vmem, ⟨28, _⟩ => ⟨S2000x1, .f32⟩
  | .local _ .vmem, ⟨29, _⟩ => ⟨S2000x60, .f32⟩
  | .local _ .vmem, ⟨30, _⟩ => ⟨S2000x60, .f32⟩
  | .local _ .vmem, ⟨31, _⟩ => ⟨S10000x64, .f32⟩
  | .local _ .vmem, ⟨32, _⟩ => ⟨S2000x64, .f32⟩
  | .local _ .vmem, ⟨33, _⟩ => ⟨S4x10000x64, .f32⟩
  | .local _ .smem, ⟨0, _⟩ => ⟨S1x1x2000, .i32⟩
  | .local _ .smem, ⟨1, _⟩ => ⟨S1x1x2000, .i32⟩
  | .local _ .smem, ⟨2, _⟩ => ⟨S1x1, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_cst_0 : Ref sig .tc := ⟨.hbm, 11, rfl⟩
abbrev main_cst_1 : Ref sig .tc := ⟨.hbm, 12, rfl⟩
abbrev main_cst_2 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_cst : Ref sig .tc := ⟨.hbm, 39, rfl⟩
abbrev main_call0_v15 : Ref sig .tc := ⟨.hbm, 40, rfl⟩
abbrev main_v5 : Ref sig .tc := ⟨.hbm, 41, rfl⟩
abbrev main_call1_c : Ref sig .tc := ⟨.hbm, 42, rfl⟩
abbrev main_call1_v0 : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_c_1 : Ref sig .tc := ⟨.hbm, 50, rfl⟩
abbrev main_call1_c_2 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_3 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_call1_cst : Ref sig .tc := ⟨.hbm, 62, rfl⟩
abbrev main_call1_v15 : Ref sig .tc := ⟨.hbm, 63, rfl⟩
abbrev main_v6 : Ref sig .tc := ⟨.hbm, 64, rfl⟩
abbrev main_call2_c : Ref sig .tc := ⟨.hbm, 65, rfl⟩
abbrev main_call2_v0 : Ref sig .tc := ⟨.hbm, 66, rfl⟩
abbrev main_call2_v1 : Ref sig .tc := ⟨.hbm, 67, rfl⟩
abbrev main_call2_c_0 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_call2_v5 : Ref sig .tc := ⟨.hbm, 72, rfl⟩
abbrev main_call2_c_1 : Ref sig .tc := ⟨.hbm, 73, rfl⟩
abbrev main_call2_c_2 : Ref sig .tc := ⟨.hbm, 74, rfl⟩
abbrev main_call2_v6 : Ref sig .tc := ⟨.hbm, 75, rfl⟩
abbrev main_call2_v7 : Ref sig .tc := ⟨.hbm, 76, rfl⟩
abbrev main_call2_v8 : Ref sig .tc := ⟨.hbm, 77, rfl⟩
abbrev main_call2_v9 : Ref sig .tc := ⟨.hbm, 78, rfl⟩
abbrev main_call2_v10 : Ref sig .tc := ⟨.hbm, 79, rfl⟩
abbrev main_call2_v11 : Ref sig .tc := ⟨.hbm, 80, rfl⟩
abbrev main_call2_c_3 : Ref sig .tc := ⟨.hbm, 81, rfl⟩
abbrev main_call2_v12 : Ref sig .tc := ⟨.hbm, 82, rfl⟩
abbrev main_call2_v13 : Ref sig .tc := ⟨.hbm, 83, rfl⟩
abbrev main_call2_v14 : Ref sig .tc := ⟨.hbm, 84, rfl⟩
abbrev main_call2_cst : Ref sig .tc := ⟨.hbm, 85, rfl⟩
abbrev main_call2_v15 : Ref sig .tc := ⟨.hbm, 86, rfl⟩
abbrev main_v7 : Ref sig .tc := ⟨.hbm, 87, rfl⟩
abbrev main_call3_c : Ref sig .tc := ⟨.hbm, 88, rfl⟩
abbrev main_call3_v0 : Ref sig .tc := ⟨.hbm, 89, rfl⟩
abbrev main_call3_v1 : Ref sig .tc := ⟨.hbm, 90, rfl⟩
abbrev main_call3_c_0 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_call3_v5 : Ref sig .tc := ⟨.hbm, 95, rfl⟩
abbrev main_call3_c_1 : Ref sig .tc := ⟨.hbm, 96, rfl⟩
abbrev main_call3_c_2 : Ref sig .tc := ⟨.hbm, 97, rfl⟩
abbrev main_call3_v6 : Ref sig .tc := ⟨.hbm, 98, rfl⟩
abbrev main_call3_v7 : Ref sig .tc := ⟨.hbm, 99, rfl⟩
abbrev main_call3_v8 : Ref sig .tc := ⟨.hbm, 100, rfl⟩
abbrev main_call3_v9 : Ref sig .tc := ⟨.hbm, 101, rfl⟩
abbrev main_call3_v10 : Ref sig .tc := ⟨.hbm, 102, rfl⟩
abbrev main_call3_v11 : Ref sig .tc := ⟨.hbm, 103, rfl⟩
abbrev main_call3_c_3 : Ref sig .tc := ⟨.hbm, 104, rfl⟩
abbrev main_call3_v12 : Ref sig .tc := ⟨.hbm, 105, rfl⟩
abbrev main_call3_v13 : Ref sig .tc := ⟨.hbm, 106, rfl⟩
abbrev main_call3_v14 : Ref sig .tc := ⟨.hbm, 107, rfl⟩
abbrev main_call3_cst : Ref sig .tc := ⟨.hbm, 108, rfl⟩
abbrev main_call3_v15 : Ref sig .tc := ⟨.hbm, 109, rfl⟩
abbrev main_v8 : Ref sig .tc := ⟨.hbm, 110, rfl⟩
abbrev main_v9 : Ref sig .tc := ⟨.hbm, 111, rfl⟩
abbrev main_v10 : Ref sig .tc := ⟨.hbm, 112, rfl⟩
abbrev main_cst_3 : Ref sig .tc := ⟨.hbm, 113, rfl⟩
abbrev main_v11 : Ref sig .tc := ⟨.hbm, 114, rfl⟩
abbrev main_v12 : Ref sig .tc := ⟨.hbm, 115, rfl⟩
abbrev main_v13 : Ref sig .tc := ⟨.hbm, 116, rfl⟩
abbrev main_v14 : Ref sig .tc := ⟨.hbm, 117, rfl⟩
abbrev main_v15 : Ref sig .tc := ⟨.hbm, 118, rfl⟩
abbrev main_cst_4 : Ref sig .tc := ⟨.hbm, 119, rfl⟩
abbrev main_v16 : Ref sig .tc := ⟨.hbm, 120, rfl⟩
abbrev main_v17 : Ref sig .tc := ⟨.hbm, 121, rfl⟩
abbrev main_v18 : Ref sig .tc := ⟨.hbm, 122, rfl⟩
abbrev main_v19 : Ref sig .tc := ⟨.hbm, 123, rfl⟩
abbrev main_v20_0 : Ref sig .tc := ⟨.hbm, 124, rfl⟩
abbrev main_v20_1 : Ref sig .tc := ⟨.hbm, 125, rfl⟩
abbrev main_v20_2 : Ref sig .tc := ⟨.hbm, 126, rfl⟩
abbrev main_cst_5 : Ref sig .tc := ⟨.hbm, 127, rfl⟩
abbrev main_v21 : Ref sig .tc := ⟨.hbm, 128, rfl⟩
abbrev main_v22 : Ref sig .tc := ⟨.hbm, 129, rfl⟩
abbrev main_v23 : Ref sig .tc := ⟨.hbm, 130, rfl⟩
abbrev main_v24 : Ref sig .tc := ⟨.hbm, 131, rfl⟩
abbrev main_v25 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg10_0 : Ref sig .tc := ⟨.vmem, 18, rfl⟩
abbrev cc1_stg11_0 : Ref sig .tc := ⟨.vmem, 19, rfl⟩
abbrev cc1_stg12_0 : Ref sig .tc := ⟨.vmem, 20, rfl⟩
abbrev cc1_stg13_0 : Ref sig .tc := ⟨.vmem, 21, rfl⟩
abbrev cc1_stg13_1 : Ref sig .tc := ⟨.vmem, 22, rfl⟩
abbrev cc1_stg14_0 : Ref sig .tc := ⟨.vmem, 23, rfl⟩
abbrev cc1_stg14_1 : Ref sig .tc := ⟨.vmem, 24, rfl⟩
abbrev cc1_stg15_0 : Ref sig .tc := ⟨.vmem, 25, rfl⟩
abbrev cc1_stg15_1 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg3_1 : Ref sig .tc := ⟨.vmem, 30, rfl⟩
abbrev cc2_stg4_0 : Ref sig .tc := ⟨.vmem, 31, rfl⟩
abbrev cc2_scratch0 : Ref sig .tc := ⟨.vmem, 32, rfl⟩
abbrev cc2_scratch1 : Ref sig .tc := ⟨.vmem, 33, rfl⟩
abbrev cc2_stg0_0 : Ref sig .tc := ⟨.smem, 0, rfl⟩
abbrev cc2_stg0_1 : Ref sig .tc := ⟨.smem, 1, rfl⟩
abbrev cc2_stg1_0 : Ref sig .tc := ⟨.smem, 2, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem10_0 : DmaSem sig := 18
abbrev cc1_sem11_0 : DmaSem sig := 19
abbrev cc1_sem12_0 : DmaSem sig := 20
abbrev cc1_sem13_0 : DmaSem sig := 21
abbrev cc1_sem13_1 : DmaSem sig := 22
abbrev cc1_sem14_0 : DmaSem sig := 23
abbrev cc1_sem14_1 : DmaSem sig := 24
abbrev cc1_sem15_0 : DmaSem sig := 25
abbrev cc1_sem15_1 : DmaSem sig := 26
abbrev cc2_sem0_0 : DmaSem sig := 27
abbrev cc2_sem0_1 : DmaSem sig := 28
abbrev cc2_sem1_0 : DmaSem sig := 29
abbrev cc2_sem2_0 : DmaSem sig := 30
abbrev cc2_sem2_1 : DmaSem sig := 31
abbrev cc2_sem3_0 : DmaSem sig := 32
abbrev cc2_sem3_1 : DmaSem sig := 33
abbrev cc2_sem4_0 : DmaSem sig := 34

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![80], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_15 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2000x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x448 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S32x16 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S32x16 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S32x16 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S8x24 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S3x24 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S4x20 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S5x20 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 2 → Memref sig .tc .vmem S2000x1 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S2000x60 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 2 → Memref sig .tc .vmem S1x1x1 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev grid2 : Pipeline.Grid := ⟨1, ![80], ![false]⟩

@[reducible] def k2_t1_loop : Scf.Loop 32 :=
  let c0_i32_8 : BitVec 32 := 0#32
  let c500_i32 : BitVec 32 := 500#32
  let v18 : BitVec 32 := Scalar.addi c0_i32_8 c500_i32
  let c1_i32 : BitVec 32 := 1#32
  ⟨c0_i32_8, v18, c1_i32⟩
def k2_off1 (k2_t1 : Fin k2_t1_loop.trips) : Fin 3 → Nat :=
  let c0_12 : Index := 0#32
  let c0_13 : Index := 0#32
  let c0_i32_8 : BitVec 32 := 0#32
  let c1_i32 : BitVec 32 := 1#32
  let arg8 : BitVec 32 := Scf.iv c0_i32_8 c1_i32 k2_t1
  let c4_i32 : BitVec 32 := 4#32
  let v22 : BitVec 32 := Scalar.muli arg8 c4_i32
  let c0_i32_11 : BitVec 32 := 0#32
  let v23 : BitVec 32 := Scalar.addi v22 c0_i32_11
  let v24 : Index := Scalar.indexCast v23
  ![0, 0, v24.toNat]
def k2_off2 (v25 : BitVec 32) : Fin 3 → Nat :=
  let c0_14 : Index := 0#32
  let v26 : Index := Scalar.indexCast v25
  let c0_15 : Index := 0#32
  ![0, v26.toNat, 0]

def k2_chk1 (v25 : BitVec 32) : Prop :=
  (∀ a, (k2_off2 v25) a + S1x1x64.size a ≤ S4x10000x64.size a)
theorem k2_off2_inb : ∀ (v25 : BitVec 32) (k2_hw1 : k2_chk1 v25), ∀ a, (k2_off2 v25) a + S1x1x64.size a ≤ S4x10000x64.size a := fun v25 k2_hw1 => k2_hw1

def k2_off3 (k2_t1 : Fin k2_t1_loop.trips) : Fin 2 → Nat :=
  let c0_i32_8 : BitVec 32 := 0#32
  let c1_i32 : BitVec 32 := 1#32
  let arg8 : BitVec 32 := Scf.iv c0_i32_8 c1_i32 k2_t1
  let c4_i32 : BitVec 32 := 4#32
  let v22 : BitVec 32 := Scalar.muli arg8 c4_i32
  let c0_i32_16 : BitVec 32 := 0#32
  let v29 : BitVec 32 := Scalar.addi v22 c0_i32_16
  let v30 : Index := Scalar.indexCast v29
  let c0_17 : Index := 0#32
  ![v30.toNat, 0]
def k2_off4 (k2_t1 : Fin k2_t1_loop.trips) : Fin 3 → Nat :=
  let c0_21 : Index := 0#32
  let c0_22 : Index := 0#32
  let c0_i32_8 : BitVec 32 := 0#32
  let c1_i32 : BitVec 32 := 1#32
  let arg8 : BitVec 32 := Scf.iv c0_i32_8 c1_i32 k2_t1
  let c4_i32 : BitVec 32 := 4#32
  let v22 : BitVec 32 := Scalar.muli arg8 c4_i32
  let c1_i32_20 : BitVec 32 := 1#32
  let v37 : BitVec 32 := Scalar.addi v22 c1_i32_20
  let v38 : Index := Scalar.indexCast v37
  ![0, 0, v38.toNat]
def k2_off5 (v39 : BitVec 32) : Fin 3 → Nat :=
  let c1 : Index := 1#32
  let v40 : Index := Scalar.indexCast v39
  let c0_23 : Index := 0#32
  ![1, v40.toNat, 0]

def k2_chk2 (v39 : BitVec 32) : Prop :=
  (∀ a, (k2_off5 v39) a + S1x1x64.size a ≤ S4x10000x64.size a)
theorem k2_off5_inb : ∀ (v39 : BitVec 32) (k2_hw2 : k2_chk2 v39), ∀ a, (k2_off5 v39) a + S1x1x64.size a ≤ S4x10000x64.size a := fun v39 k2_hw2 => k2_hw2

def k2_off6 (k2_t1 : Fin k2_t1_loop.trips) : Fin 2 → Nat :=
  let c0_i32_8 : BitVec 32 := 0#32
  let c1_i32 : BitVec 32 := 1#32
  let arg8 : BitVec 32 := Scf.iv c0_i32_8 c1_i32 k2_t1
  let c4_i32 : BitVec 32 := 4#32
  let v22 : BitVec 32 := Scalar.muli arg8 c4_i32
  let c1_i32_24 : BitVec 32 := 1#32
  let v43 : BitVec 32 := Scalar.addi v22 c1_i32_24
  let v44 : Index := Scalar.indexCast v43
  let c0_25 : Index := 0#32
  ![v44.toNat, 0]
def k2_off7 (k2_t1 : Fin k2_t1_loop.trips) : Fin 3 → Nat :=
  let c0_28 : Index := 0#32
  let c0_29 : Index := 0#32
  let c0_i32_8 : BitVec 32 := 0#32
  let c1_i32 : BitVec 32 := 1#32
  let arg8 : BitVec 32 := Scf.iv c0_i32_8 c1_i32 k2_t1
  let c4_i32 : BitVec 32 := 4#32
  let v22 : BitVec 32 := Scalar.muli arg8 c4_i32
  let c2_i32 : BitVec 32 := 2#32
  let v51 : BitVec 32 := Scalar.addi v22 c2_i32
  let v52 : Index := Scalar.indexCast v51
  ![0, 0, v52.toNat]
def k2_off8 (v53 : BitVec 32) : Fin 3 → Nat :=
  let c2 : Index := 2#32
  let v54 : Index := Scalar.indexCast v53
  let c0_30 : Index := 0#32
  ![2, v54.toNat, 0]

def k2_chk3 (v53 : BitVec 32) : Prop :=
  (∀ a, (k2_off8 v53) a + S1x1x64.size a ≤ S4x10000x64.size a)
theorem k2_off8_inb : ∀ (v53 : BitVec 32) (k2_hw3 : k2_chk3 v53), ∀ a, (k2_off8 v53) a + S1x1x64.size a ≤ S4x10000x64.size a := fun v53 k2_hw3 => k2_hw3

def k2_off9 (k2_t1 : Fin k2_t1_loop.trips) : Fin 2 → Nat :=
  let c0_i32_8 : BitVec 32 := 0#32
  let c1_i32 : BitVec 32 := 1#32
  let arg8 : BitVec 32 := Scf.iv c0_i32_8 c1_i32 k2_t1
  let c4_i32 : BitVec 32 := 4#32
  let v22 : BitVec 32 := Scalar.muli arg8 c4_i32
  let c2_i32_31 : BitVec 32 := 2#32
  let v57 : BitVec 32 := Scalar.addi v22 c2_i32_31
  let v58 : Index := Scalar.indexCast v57
  let c0_32 : Index := 0#32
  ![v58.toNat, 0]
def k2_off10 (k2_t1 : Fin k2_t1_loop.trips) : Fin 3 → Nat :=
  let c0_35 : Index := 0#32
  let c0_36 : Index := 0#32
  let c0_i32_8 : BitVec 32 := 0#32
  let c1_i32 : BitVec 32 := 1#32
  let arg8 : BitVec 32 := Scf.iv c0_i32_8 c1_i32 k2_t1
  let c4_i32 : BitVec 32 := 4#32
  let v22 : BitVec 32 := Scalar.muli arg8 c4_i32
  let c3_i32 : BitVec 32 := 3#32
  let v65 : BitVec 32 := Scalar.addi v22 c3_i32
  let v66 : Index := Scalar.indexCast v65
  ![0, 0, v66.toNat]
def k2_off11 (v67 : BitVec 32) : Fin 3 → Nat :=
  let c3 : Index := 3#32
  let v68 : Index := Scalar.indexCast v67
  let c0_37 : Index := 0#32
  ![3, v68.toNat, 0]

def k2_chk4 (v67 : BitVec 32) : Prop :=
  (∀ a, (k2_off11 v67) a + S1x1x64.size a ≤ S4x10000x64.size a)
theorem k2_off11_inb : ∀ (v67 : BitVec 32) (k2_hw4 : k2_chk4 v67), ∀ a, (k2_off11 v67) a + S1x1x64.size a ≤ S4x10000x64.size a := fun v67 k2_hw4 => k2_hw4

def k2_off12 (k2_t1 : Fin k2_t1_loop.trips) : Fin 2 → Nat :=
  let c0_i32_8 : BitVec 32 := 0#32
  let c1_i32 : BitVec 32 := 1#32
  let arg8 : BitVec 32 := Scf.iv c0_i32_8 c1_i32 k2_t1
  let c4_i32 : BitVec 32 := 4#32
  let v22 : BitVec 32 := Scalar.muli arg8 c4_i32
  let c3_i32_38 : BitVec 32 := 3#32
  let v71 : BitVec 32 := Scalar.addi v22 c3_i32_38
  let v72 : Index := Scalar.indexCast v71
  let c0_39 : Index := 0#32
  ![v72.toNat, 0]
def k2_cond2 (i : grid2.Coords) : BitVec 1 :=
  let arg0 : BitVec 32 := BitVec.ofNat 32 (i 0).val
  let c79_i32 : BitVec 32 := 79#32
  let v19 : BitVec 1 := Scalar.cmpi .eq arg0 c79_i32
  let v20 : BitVec 32 := Scalar.extui v19
  let c0_i32_10 : BitVec 32 := 0#32
  let v21 : BitVec 1 := Scalar.cmpi .ne v20 c0_i32_10
  v21

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .smem S1x1x2000 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .smem S1x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x60 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S10000x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]
-- ==== ReferenceIdeal.lean ====
abbrev S10000x128 : Shape := ⟨2, ![10000, 128]⟩
abbrev S10000x3 : Shape := ⟨2, ![10000, 3]⟩
abbrev S2x160000 : Shape := ⟨2, ![2, 160000]⟩
abbrev S128x32 : Shape := ⟨2, ![128, 32]⟩
abbrev S32x16 : Shape := ⟨2, ![32, 16]⟩
abbrev S16x2048 : Shape := ⟨2, ![16, 2048]⟩
abbrev S16x3584 : Shape := ⟨2, ![16, 3584]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S160000x3 : Shape := ⟨2, ![160000, 3]⟩
abbrev S160000x5 : Shape := ⟨2, ![160000, 5]⟩
abbrev S32 : Shape := ⟨1, ![32]⟩
abbrev S1x32 : Shape := ⟨2, ![1, 32]⟩
abbrev S160000x32 : Shape := ⟨2, ![160000, 32]⟩
abbrev S160000x16 : Shape := ⟨2, ![160000, 16]⟩
abbrev S160000x128 : Shape := ⟨2, ![160000, 128]⟩
abbrev S16x128x16 : Shape := ⟨3, ![16, 128, 16]⟩
abbrev S160000x16x16 : Shape := ⟨3, ![160000, 16, 16]⟩
abbrev S10000x32 : Shape := ⟨2, ![10000, 32]⟩
abbrev S16x160000 : Shape := ⟨2, ![16, 160000]⟩
abbrev S10000 : Shape := ⟨1, ![10000]⟩
abbrev S16x128x28 : Shape := ⟨3, ![16, 128, 28]⟩
abbrev S160000x16x28 : Shape := ⟨3, ![160000, 16, 28]⟩
abbrev S160000x28 : Shape := ⟨2, ![160000, 28]⟩
abbrev S160000x8 : Shape := ⟨2, ![160000, 8]⟩
abbrev S160000x4 : Shape := ⟨2, ![160000, 4]⟩
abbrev S160000x8x1 : Shape := ⟨3, ![160000, 8, 1]⟩
abbrev S160000x1x3 : Shape := ⟨3, ![160000, 1, 3]⟩
abbrev S160000x8x3 : Shape := ⟨3, ![160000, 8, 3]⟩
abbrev S160000x24 : Shape := ⟨2, ![160000, 24]⟩
abbrev S160000x4x1 : Shape := ⟨3, ![160000, 4, 1]⟩
abbrev S160000x1x5 : Shape := ⟨3, ![160000, 1, 5]⟩
abbrev S160000x4x5 : Shape := ⟨3, ![160000, 4, 5]⟩
abbrev S160000x20 : Shape := ⟨2, ![160000, 20]⟩
abbrev S160000x60 : Shape := ⟨2, ![160000, 60]⟩
abbrev S10000x60 : Shape := ⟨2, ![10000, 60]⟩

abbrev nBuf : Space → Nat
  | .hbm => 237
  | .vmem => 0
  | .smem => 0
  | _ => 0

abbrev hbmTy0_0 (i : Nat) : BufTy := match i % 128 with
  | 0 => ⟨S10000x128, .f32⟩
  | 1 => ⟨S10000x3, .f32⟩
  | 2 => ⟨S2x160000, .i32⟩
  | 3 => ⟨S128x32, .f32⟩
  | 4 => ⟨S32x16, .f32⟩
  | 5 => ⟨S32x16, .f32⟩
  | 6 => ⟨S32x16, .f32⟩
  | 7 => ⟨S16x2048, .f32⟩
  | 8 => ⟨S32x16, .f32⟩
  | 9 => ⟨S16x3584, .f32⟩
  | 10 => ⟨S1x160000, .i32⟩
  | 11 => ⟨S160000, .i32⟩
  | 12 => ⟨S1x160000, .i32⟩
  | 13 => ⟨S160000, .i32⟩
  | 14 => ⟨S_, .i32⟩
  | 15 => ⟨S160000, .i32⟩
  | 16 => ⟨S160000, .i1⟩
  | 17 => ⟨S_, .i32⟩
  | 18 => ⟨S160000, .i32⟩
  | 19 => ⟨S160000, .i32⟩
  | 20 => ⟨S160000, .i32⟩
  | 21 => ⟨S160000x1, .i32⟩
  | 22 => ⟨S160000x3, .f32⟩
  | 23 => ⟨S_, .i32⟩
  | 24 => ⟨S160000, .i32⟩
  | 25 => ⟨S160000, .i1⟩
  | 26 => ⟨S_, .i32⟩
  | 27 => ⟨S160000, .i32⟩
  | 28 => ⟨S160000, .i32⟩
  | 29 => ⟨S160000, .i32⟩
  | 30 => ⟨S160000x1, .i32⟩
  | 31 => ⟨S160000x3, .f32⟩
  | 32 => ⟨S160000x3, .f32⟩
  | 33 => ⟨S160000x3, .f32⟩
  | 34 => ⟨S_, .f32⟩
  | 35 => ⟨S160000, .f32⟩
  | 36 => ⟨S160000, .f32⟩
  | 37 => ⟨S160000x1, .f32⟩
  | 38 => ⟨S_, .f32⟩
  | 39 => ⟨S160000x1, .f32⟩
  | 40 => ⟨S160000x1, .f32⟩
  | 41 => ⟨S160000x3, .f32⟩
  | 42 => ⟨S160000x3, .f32⟩
  | 43 => ⟨S160000x1, .f32⟩
  | 44 => ⟨S160000, .f32⟩
  | 45 => ⟨S160000x1, .f32⟩
  | 46 => ⟨S160000, .f32⟩
  | 47 => ⟨S160000x1, .f32⟩
  | 48 => ⟨S160000, .f32⟩
  | 49 => ⟨S_, .f32⟩
  | 50 => ⟨S160000x3, .f32⟩
  | 51 => ⟨S160000x3, .f32⟩
  | 52 => ⟨S_, .f32⟩
  | 53 => ⟨S160000, .f32⟩
  | 54 => ⟨S160000, .f32⟩
  | 55 => ⟨S160000, .f32⟩
  | 56 => ⟨S_, .f32⟩
  | 57 => ⟨S160000, .f32⟩
  | 58 => ⟨S160000, .f32⟩
  | 59 => ⟨S160000, .f32⟩
  | 60 => ⟨S_, .f32⟩
  | 61 => ⟨S160000, .f32⟩
  | 62 => ⟨S160000, .f32⟩
  | 63 => ⟨S160000, .f32⟩
  | 64 => ⟨S_, .f32⟩
  | 65 => ⟨S160000, .f32⟩
  | 66 => ⟨S160000, .f32⟩
  | 67 => ⟨S_, .f32⟩
  | 68 => ⟨S160000, .f32⟩
  | 69 => ⟨S160000, .f32⟩
  | 70 => ⟨S_, .f32⟩
  | 71 => ⟨S160000, .f32⟩
  | 72 => ⟨S160000, .f32⟩
  | 73 => ⟨S160000, .f32⟩
  | 74 => ⟨S160000, .f32⟩
  | 75 => ⟨S160000, .f32⟩
  | 76 => ⟨S160000, .f32⟩
  | 77 => ⟨S_, .f32⟩
  | 78 => ⟨S160000, .f32⟩
  | 79 => ⟨S160000, .f32⟩
  | 80 => ⟨S160000x1, .f32⟩
  | 81 => ⟨S160000x1, .f32⟩
  | 82 => ⟨S160000x1, .f32⟩
  | 83 => ⟨S160000x1, .f32⟩
  | 84 => ⟨S160000x1, .f32⟩
  | 85 => ⟨S160000x5, .f32⟩
  | 86 => ⟨S32, .f32⟩
  | 87 => ⟨S_, .f32⟩
  | 88 => ⟨S32, .f32⟩
  | 89 => ⟨S32, .f32⟩
  | 90 => ⟨S160000x1, .f32⟩
  | 91 => ⟨S1x32, .f32⟩
  | 92 => ⟨S160000x32, .f32⟩
  | 93 => ⟨S160000x32, .f32⟩
  | 94 => ⟨S160000x32, .f32⟩
  | 95 => ⟨S_, .f32⟩
  | 96 => ⟨S160000x32, .f32⟩
  | 97 => ⟨S160000x32, .f32⟩
  | 98 => ⟨S160000x32, .f32⟩
  | 99 => ⟨S_, .f32⟩
  | 100 => ⟨S160000x32, .f32⟩
  | 101 => ⟨S160000x32, .f32⟩
  | 102 => ⟨S160000x32, .f32⟩
  | 103 => ⟨S_, .f32⟩
  | 104 => ⟨S160000x32, .f32⟩
  | 105 => ⟨S160000x32, .f32⟩
  | 106 => ⟨S160000x32, .f32⟩
  | 107 => ⟨S_, .f32⟩
  | 108 => ⟨S160000, .f32⟩
  | 109 => ⟨S160000x1, .f32⟩
  | 110 => ⟨S160000x1, .f32⟩
  | 111 => ⟨S_, .f32⟩
  | 112 => ⟨S160000x1, .f32⟩
  | 113 => ⟨S160000x1, .f32⟩
  | 114 => ⟨S160000x32, .f32⟩
  | 115 => ⟨S160000x32, .f32⟩
  | 116 => ⟨S160000x16, .f32⟩
  | 117 => ⟨S_, .f32⟩
  | 118 => ⟨S160000x16, .f32⟩
  | 119 => ⟨S160000x16, .f32⟩
  | 120 => ⟨S160000x16, .f32⟩
  | 121 => ⟨S160000x16, .f32⟩
  | 122 => ⟨S_, .f32⟩
  | 123 => ⟨S160000x16, .f32⟩
  | 124 => ⟨S160000x16, .f32⟩
  | 125 => ⟨S_, .f32⟩
  | 126 => ⟨S160000x16, .f32⟩
  | 127 => ⟨S160000x16, .f32⟩
  | _ => ⟨S10000x128, .f32⟩

abbrev hbmTy0_1 (i : Nat) : BufTy := match i % 128 with
  | 0 => ⟨S160000x16, .f32⟩
  | 1 => ⟨S160000x16, .f32⟩
  | 2 => ⟨S_, .f32⟩
  | 3 => ⟨S160000x16, .f32⟩
  | 4 => ⟨S160000x16, .f32⟩
  | 5 => ⟨S160000x16, .f32⟩
  | 6 => ⟨S160000x16, .f32⟩
  | 7 => ⟨S_, .f32⟩
  | 8 => ⟨S160000x16, .f32⟩
  | 9 => ⟨S160000x16, .f32⟩
  | 10 => ⟨S_, .f32⟩
  | 11 => ⟨S160000x16, .f32⟩
  | 12 => ⟨S160000x16, .f32⟩
  | 13 => ⟨S160000x16, .f32⟩
  | 14 => ⟨S_, .i32⟩
  | 15 => ⟨S160000, .i32⟩
  | 16 => ⟨S160000, .i1⟩
  | 17 => ⟨S_, .i32⟩
  | 18 => ⟨S160000, .i32⟩
  | 19 => ⟨S160000, .i32⟩
  | 20 => ⟨S160000, .i32⟩
  | 21 => ⟨S160000x1, .i32⟩
  | 22 => ⟨S160000x128, .f32⟩
  | 23 => ⟨S16x128x16, .f32⟩
  | 24 => ⟨S_, .f32⟩
  | 25 => ⟨S16x128x16, .f32⟩
  | 26 => ⟨S16x128x16, .f32⟩
  | 27 => ⟨S160000x16x16, .f32⟩
  | 28 => ⟨S160000x16, .f32⟩
  | 29 => ⟨S_, .f32⟩
  | 30 => ⟨S160000x16, .f32⟩
  | 31 => ⟨S160000x16, .f32⟩
  | 32 => ⟨S10000x32, .f32⟩
  | 33 => ⟨S_, .f32⟩
  | 34 => ⟨S10000x32, .f32⟩
  | 35 => ⟨S10000x32, .f32⟩
  | 36 => ⟨S_, .i32⟩
  | 37 => ⟨S160000, .i32⟩
  | 38 => ⟨S160000, .i1⟩
  | 39 => ⟨S_, .i32⟩
  | 40 => ⟨S160000, .i32⟩
  | 41 => ⟨S160000, .i32⟩
  | 42 => ⟨S160000, .i32⟩
  | 43 => ⟨S160000x1, .i32⟩
  | 44 => ⟨S160000x32, .f32⟩
  | 45 => ⟨S160000x16, .f32⟩
  | 46 => ⟨S_, .f32⟩
  | 47 => ⟨S160000x16, .f32⟩
  | 48 => ⟨S160000x16, .f32⟩
  | 49 => ⟨S160000x16, .f32⟩
  | 50 => ⟨S16x160000, .f32⟩
  | 51 => ⟨S160000, .f32⟩
  | 52 => ⟨S_, .f32⟩
  | 53 => ⟨S160000, .f32⟩
  | 54 => ⟨S160000, .f32⟩
  | 55 => ⟨S_, .f32⟩
  | 56 => ⟨S_, .f32⟩
  | 57 => ⟨S160000, .f32⟩
  | 58 => ⟨S160000, .f32⟩
  | 59 => ⟨S160000, .f32⟩
  | 60 => ⟨S_, .f32⟩
  | 61 => ⟨S10000, .f32⟩
  | 62 => ⟨S160000x1, .i32⟩
  | 63 => ⟨S10000, .f32⟩
  | 64 => ⟨S_, .i32⟩
  | 65 => ⟨S160000, .i32⟩
  | 66 => ⟨S160000, .i1⟩
  | 67 => ⟨S_, .i32⟩
  | 68 => ⟨S160000, .i32⟩
  | 69 => ⟨S160000, .i32⟩
  | 70 => ⟨S160000, .i32⟩
  | 71 => ⟨S160000x1, .i32⟩
  | 72 => ⟨S160000, .f32⟩
  | 73 => ⟨S_, .f32⟩
  | 74 => ⟨S160000, .f32⟩
  | 75 => ⟨S160000, .f32⟩
  | 76 => ⟨S160000, .f32⟩
  | 77 => ⟨S16x128x28, .f32⟩
  | 78 => ⟨S_, .f32⟩
  | 79 => ⟨S16x128x28, .f32⟩
  | 80 => ⟨S16x128x28, .f32⟩
  | 81 => ⟨S160000x16x28, .f32⟩
  | 82 => ⟨S160000x28, .f32⟩
  | 83 => ⟨S_, .f32⟩
  | 84 => ⟨S160000x28, .f32⟩
  | 85 => ⟨S160000x28, .f32⟩
  | 86 => ⟨S160000x16, .f32⟩
  | 87 => ⟨S160000x8, .f32⟩
  | 88 => ⟨S160000x4, .f32⟩
  | 89 => ⟨S160000x8x1, .f32⟩
  | 90 => ⟨S160000x1x3, .f32⟩
  | 91 => ⟨S160000x8x3, .f32⟩
  | 92 => ⟨S160000x8x3, .f32⟩
  | 93 => ⟨S160000x8x3, .f32⟩
  | 94 => ⟨S160000x24, .f32⟩
  | 95 => ⟨S160000x4x1, .f32⟩
  | 96 => ⟨S160000x1x5, .f32⟩
  | 97 => ⟨S160000x4x5, .f32⟩
  | 98 => ⟨S160000x4x5, .f32⟩
  | 99 => ⟨S160000x4x5, .f32⟩
  | 100 => ⟨S160000x20, .f32⟩
  | 101 => ⟨S160000x60, .f32⟩
  | 102 => ⟨S160000x1, .f32⟩
  | 103 => ⟨S160000x60, .f32⟩
  | 104 => ⟨S160000x60, .f32⟩
  | 105 => ⟨S_, .f32⟩
  | 106 => ⟨S10000x60, .f32⟩
  | 107 => ⟨S160000x1, .i32⟩
  | 108 => ⟨S10000x60, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_call0_v0 : Ref sig .tc := ⟨.hbm, 33, rfl⟩
abbrev main_call0_cst : Ref sig .tc := ⟨.hbm, 34, rfl⟩
abbrev main_call0_v1 : Ref sig .tc := ⟨.hbm, 35, rfl⟩
abbrev main_v19 : Ref sig .tc := ⟨.hbm, 36, rfl⟩
abbrev main_v20 : Ref sig .tc := ⟨.hbm, 37, rfl⟩
abbrev main_cst : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_3 : Ref sig .tc := ⟨.hbm, 49, rfl⟩
abbrev main_v31 : Ref sig .tc := ⟨.hbm, 50, rfl⟩
abbrev main_v32 : Ref sig .tc := ⟨.hbm, 51, rfl⟩
abbrev main_cst_4 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_5 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_6 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_7 : Ref sig .tc := ⟨.hbm, 64, rfl⟩
abbrev main_v42 : Ref sig .tc := ⟨.hbm, 65, rfl⟩
abbrev main_v43 : Ref sig .tc := ⟨.hbm, 66, rfl⟩
abbrev main_cst_8 : Ref sig .tc := ⟨.hbm, 67, rfl⟩
abbrev main_v44 : Ref sig .tc := ⟨.hbm, 68, rfl⟩
abbrev main_v45 : Ref sig .tc := ⟨.hbm, 69, rfl⟩
abbrev main_cst_9 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_10 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_11 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_12 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_13 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_14 : Ref sig .tc := ⟨.hbm, 103, rfl⟩
abbrev main_v74 : Ref sig .tc := ⟨.hbm, 104, rfl⟩
abbrev main_v75 : Ref sig .tc := ⟨.hbm, 105, rfl⟩
abbrev main_call1_v0 : Ref sig .tc := ⟨.hbm, 106, rfl⟩
abbrev main_call1_cst : Ref sig .tc := ⟨.hbm, 107, rfl⟩
abbrev main_call1_v1 : Ref sig .tc := ⟨.hbm, 108, rfl⟩
abbrev main_call1_v2 : Ref sig .tc := ⟨.hbm, 109, rfl⟩
abbrev main_v76 : Ref sig .tc := ⟨.hbm, 110, rfl⟩
abbrev main_cst_15 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_16 : Ref sig .tc := ⟨.hbm, 117, rfl⟩
abbrev main_v82 : Ref sig .tc := ⟨.hbm, 118, rfl⟩
abbrev main_v83 : Ref sig .tc := ⟨.hbm, 119, rfl⟩
abbrev main_call2_v0 : Ref sig .tc := ⟨.hbm, 120, rfl⟩
abbrev main_call2_v1 : Ref sig .tc := ⟨.hbm, 121, rfl⟩
abbrev main_call2_cst : Ref sig .tc := ⟨.hbm, 122, rfl⟩
abbrev main_call2_v2 : Ref sig .tc := ⟨.hbm, 123, rfl⟩
abbrev main_call2_v3 : Ref sig .tc := ⟨.hbm, 124, rfl⟩
abbrev main_call2_cst_0 : Ref sig .tc := ⟨.hbm, 125, rfl⟩
abbrev main_call2_v4 : Ref sig .tc := ⟨.hbm, 126, rfl⟩
abbrev main_call2_v5 : Ref sig .tc := ⟨.hbm, 127, rfl⟩
abbrev main_v84 : Ref sig .tc := ⟨.hbm, 128, rfl⟩
abbrev main_v85 : Ref sig .tc := ⟨.hbm, 129, rfl⟩
abbrev main_cst_17 : Ref sig .tc := ⟨.hbm, 130, rfl⟩
abbrev main_v86 : Ref sig .tc := ⟨.hbm, 131, rfl⟩
abbrev main_v87 : Ref sig .tc := ⟨.hbm, 132, rfl⟩
abbrev main_call3_v0 : Ref sig .tc := ⟨.hbm, 133, rfl⟩
abbrev main_call3_v1 : Ref sig .tc := ⟨.hbm, 134, rfl⟩
abbrev main_call3_cst : Ref sig .tc := ⟨.hbm, 135, rfl⟩
abbrev main_call3_v2 : Ref sig .tc := ⟨.hbm, 136, rfl⟩
abbrev main_call3_v3 : Ref sig .tc := ⟨.hbm, 137, rfl⟩
abbrev main_call3_cst_0 : Ref sig .tc := ⟨.hbm, 138, rfl⟩
abbrev main_call3_v4 : Ref sig .tc := ⟨.hbm, 139, rfl⟩
abbrev main_call3_v5 : Ref sig .tc := ⟨.hbm, 140, rfl⟩
abbrev main_v88 : Ref sig .tc := ⟨.hbm, 141, rfl⟩
abbrev main_c_18 : Ref sig .tc := ⟨.hbm, 142, rfl⟩
abbrev main_v89 : Ref sig .tc := ⟨.hbm, 143, rfl⟩
abbrev main_v90 : Ref sig .tc := ⟨.hbm, 144, rfl⟩
abbrev main_c_19 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_cst_20 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_cst_21 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_cst_22 : Ref sig .tc := ⟨.hbm, 161, rfl⟩
abbrev main_v104 : Ref sig .tc := ⟨.hbm, 162, rfl⟩
abbrev main_v105 : Ref sig .tc := ⟨.hbm, 163, rfl⟩
abbrev main_c_23 : Ref sig .tc := ⟨.hbm, 164, rfl⟩
abbrev main_v106 : Ref sig .tc := ⟨.hbm, 165, rfl⟩
abbrev main_v107 : Ref sig .tc := ⟨.hbm, 166, rfl⟩
abbrev main_c_24 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_cst_25 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_v118 : Ref sig .tc := ⟨.hbm, 179, rfl⟩
abbrev main_cst_26 : Ref sig .tc := ⟨.hbm, 180, rfl⟩
abbrev main_v119 : Ref sig .tc := ⟨.hbm, 181, rfl⟩
abbrev main_v120 : Ref sig .tc := ⟨.hbm, 182, rfl⟩
abbrev main_cst_27 : Ref sig .tc := ⟨.hbm, 183, rfl⟩
abbrev main_v121 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩
abbrev main_cst_28 : Ref sig .tc := ⟨.hbm, 188, rfl⟩
abbrev main_v125 : Ref sig .tc := ⟨.hbm, 189, rfl⟩
abbrev main_v126 : Ref sig .tc := ⟨.hbm, 190, rfl⟩
abbrev main_v127 : Ref sig .tc := ⟨.hbm, 191, rfl⟩
abbrev main_c_29 : Ref sig .tc := ⟨.hbm, 192, rfl⟩
abbrev main_v128 : Ref sig .tc := ⟨.hbm, 193, rfl⟩
abbrev main_v129 : Ref sig .tc := ⟨.hbm, 194, rfl⟩
abbrev main_c_30 : Ref sig .tc := ⟨.hbm, 195, rfl⟩
abbrev main_v130 : Ref sig .tc := ⟨.hbm, 196, rfl⟩
abbrev main_v131 : Ref sig .tc := ⟨.hbm, 197, rfl⟩
abbrev main_v132 : Ref sig .tc := ⟨.hbm, 198, rfl⟩
abbrev main_v133 : Ref sig .tc := ⟨.hbm, 199, rfl⟩
abbrev main_v134 : Ref sig .tc := ⟨.hbm, 200, rfl⟩
abbrev main_cst_31 : Ref sig .tc := ⟨.hbm, 201, rfl⟩
abbrev main_v135 : Ref sig .tc := ⟨.hbm, 202, rfl⟩
abbrev main_v136 : Ref sig .tc := ⟨.hbm, 203, rfl⟩
abbrev main_v137 : Ref sig .tc := ⟨.hbm, 204, rfl⟩
abbrev main_v138 : Ref sig .tc := ⟨.hbm, 205, rfl⟩
abbrev main_cst_32 : Ref sig .tc := ⟨.hbm, 206, rfl⟩
abbrev main_v139 : Ref sig .tc := ⟨.hbm, 207, rfl⟩
abbrev main_v140 : Ref sig .tc := ⟨.hbm, 208, rfl⟩
abbrev main_v141 : Ref sig .tc := ⟨.hbm, 209, rfl⟩
abbrev main_v142 : Ref sig .tc := ⟨.hbm, 210, rfl⟩
abbrev main_cst_33 : Ref sig .tc := ⟨.hbm, 211, rfl⟩
abbrev main_v143 : Ref sig .tc := ⟨.hbm, 212, rfl⟩
abbrev main_v144 : Ref sig .tc := ⟨.hbm, 213, rfl⟩
abbrev main_v145 : Ref sig .tc := ⟨.hbm, 214, rfl⟩
abbrev main_v146 : Ref sig .tc := ⟨.hbm, 215, rfl⟩
abbrev main_v147 : Ref sig .tc := ⟨.hbm, 216, rfl⟩
abbrev main_v148 : Ref sig .tc := ⟨.hbm, 217, rfl⟩
abbrev main_v149 : Ref sig .tc := ⟨.hbm, 218, rfl⟩
abbrev main_v150 : Ref sig .tc := ⟨.hbm, 219, rfl⟩
abbrev main_v151 : Ref sig .tc := ⟨.hbm, 220, rfl⟩
abbrev main_v152 : Ref sig .tc := ⟨.hbm, 221, rfl⟩
abbrev main_v153 : Ref sig .tc := ⟨.hbm, 222, rfl⟩
abbrev main_v154 : Ref sig .tc := ⟨.hbm, 223, rfl⟩
abbrev main_v155 : Ref sig .tc := ⟨.hbm, 224, rfl⟩
abbrev main_v156 : Ref sig .tc := ⟨.hbm, 225, rfl⟩
abbrev main_v157 : Ref sig .tc := ⟨.hbm, 226, rfl⟩
abbrev main_v158 : Ref sig .tc := ⟨.hbm, 227, rfl⟩
abbrev main_v159 : Ref sig .tc := ⟨.hbm, 228, rfl⟩
abbrev main_v160 : Ref sig .tc := ⟨.hbm, 229, rfl⟩
abbrev main_v161 : Ref sig .tc := ⟨.hbm, 230, rfl⟩
abbrev main_v162 : Ref sig .tc := ⟨.hbm, 231, rfl⟩
abbrev main_v163 : Ref sig .tc := ⟨.hbm, 232, rfl⟩
abbrev main_cst_34 : Ref sig .tc := ⟨.hbm, 233, rfl⟩
abbrev main_v164 : Ref sig .tc := ⟨.hbm, 234, rfl⟩
abbrev main_v165 : Ref sig .tc := ⟨.hbm, 235, rfl⟩
abbrev main_v166 : Ref sig .tc := ⟨.hbm, 236, rfl⟩

abbrev nD : Nat := 1
abbrev τ : Topo := Topo.v7x

variable {F : FTy → Type} [FloatOps F]
-- ==== Proof.KernelIdeal.ScatBase.lean ====
/- What the runs of the scatter kernel (custom call 2) are stated over: its two branch conditions over the
   grid points, its staging and scratch memrefs, the blocks of its input windows at given entry contents, and the side
   conditions that the dynamic row accesses need. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit

@[expose] public section

noncomputable section

namespace Cert.KernelIdeal.Scat

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch: the accumulator is cleared. -/
abbrev AtFirst (i : grid2.Coords) : Prop := (Scalar.cmpi .ne (Scalar.extui (Scalar.cmpi .eq (BitVec.ofNat 32 (i 0).val) 0#32)) 0#32) = 1#1
/-- The second branch: the quotient is written out. -/
abbrev AtLast (i : grid2.Coords) : Prop := k2_cond2 i = 1#1

/-- The accumulator is cleared at the grid's first point. -/
theorem atFirst_iff : ∀ t : Fin cfg2.N, AtFirst (grid2.coords t) ↔ t.val % 80 = 0 :=
  (fun t => by
    have ht : t.val < 80 := Nat.lt_of_lt_of_eq t.isLt N_2
    have e0 : (grid2.coords t 0).val = t.val / 1 % 80 := Pipeline.Grid.coords_val t 0 (by decide) rfl
    simp only [AtFirst, e0]
    word_cmp
   : ∀ t : Fin grid2.N, AtFirst (grid2.coords t) ↔ t.val % 80 = 0)

/-- The quotient is written at the grid's last point. -/
theorem atLast_iff : ∀ t : Fin cfg2.N, AtLast (grid2.coords t) ↔ t.val % 80 = 79 :=
  (fun t => by
    have ht : t.val < 80 := Nat.lt_of_lt_of_eq t.isLt N_2
    have e0 : (grid2.coords t 0).val = t.val / 1 % 80 := Pipeline.Grid.coords_val t 0 (by decide) rfl
    simp only [AtLast, k2_cond2, e0]
    word_cmp
   : ∀ t : Fin grid2.N, AtLast (grid2.coords t) ↔ t.val % 80 = 79)

/-- The destination word that step 1 of each trip of the row loop reads names a row of the accumulator. -/
abbrev RowOk1 (arg1 : Memref sig .tc .smem S1x1x2000 .i32) (harg1 : arg1.IsWhole) (x0 : Vec F S1x1x2000 .i32) : Prop :=
  ∀ (kq : ℕ) (hkq : kq < k2_t1_loop.trips), k2_chk1 (arg1.view.readAt (Elt F) (Rect.unit (s := S1x1x2000) (k2_off1 ⟨kq, hkq⟩) S1x1x1.size (k2_off1_inb ⟨kq, hkq⟩)).toLoadRect (harg1.unread x0) (Shape.Idx.first (numel1_S1x1x1.symm ▸ Nat.one_pos)))
/-- The destination word that step 2 of each trip of the row loop reads names a row of the accumulator. -/
abbrev RowOk2 (arg1 : Memref sig .tc .smem S1x1x2000 .i32) (harg1 : arg1.IsWhole) (x0 : Vec F S1x1x2000 .i32) : Prop :=
  ∀ (kq : ℕ) (hkq : kq < k2_t1_loop.trips), k2_chk2 (arg1.view.readAt (Elt F) (Rect.unit (s := S1x1x2000) (k2_off4 ⟨kq, hkq⟩) S1x1x1.size (k2_off4_inb ⟨kq, hkq⟩)).toLoadRect (harg1.unread x0) (Shape.Idx.first (numel1_S1x1x1.symm ▸ Nat.one_pos)))
/-- The destination word that step 3 of each trip of the row loop reads names a row of the accumulator. -/
abbrev RowOk3 (arg1 : Memref sig .tc .smem S1x1x2000 .i32) (harg1 : arg1.IsWhole) (x0 : Vec F S1x1x2000 .i32) : Prop :=
  ∀ (kq : ℕ) (hkq : kq < k2_t1_loop.trips), k2_chk3 (arg1.view.readAt (Elt F) (Rect.unit (s := S1x1x2000) (k2_off7 ⟨kq, hkq⟩) S1x1x1.size (k2_off7_inb ⟨kq, hkq⟩)).toLoadRect (harg1.unread x0) (Shape.Idx.first (numel1_S1x1x1.symm ▸ Nat.one_pos)))
/-- The destination word that step 4 of each trip of the row loop reads names a row of the accumulator. -/
abbrev RowOk4 (arg1 : Memref sig .tc .smem S1x1x2000 .i32) (harg1 : arg1.IsWhole) (x0 : Vec F S1x1x2000 .i32) : Prop :=
  ∀ (kq : ℕ) (hkq : kq < k2_t1_loop.trips), k2_chk4 (arg1.view.readAt (Elt F) (Rect.unit (s := S1x1x2000) (k2_off10 ⟨kq, hkq⟩) S1x1x1.size (k2_off10_inb ⟨kq, hkq⟩)).toLoadRect (harg1.unread x0) (Shape.Idx.first (numel1_S1x1x1.symm ▸ Nat.one_pos)))

/-- Window 0's staging memref at point `t`. -/
abbrev stg0 (t : Fin cfg2.N) : Memref sig .tc .smem S1x1x2000 .i32 := win2_0.stage (cfg2.slots t 0)
/-- It is a whole buffer. -/
abbrev stgW0 (t : Fin cfg2.N) : (stg0 t).IsWhole := hstage2_0 ((cfg2.slots t 0).cast nbuf2_0)
/-- Window 1's staging memref at point `t`. -/
abbrev stg1 (t : Fin cfg2.N) : Memref sig .tc .smem S1x1 .f32 := win2_1.stage (cfg2.slots t 1)
/-- It is a whole buffer. -/
abbrev stgW1 (t : Fin cfg2.N) : (stg1 t).IsWhole := hstage2_1 ((cfg2.slots t 1).cast nbuf2_1)
/-- Window 2's staging memref at point `t`. -/
abbrev stg2 (t : Fin cfg2.N) : Memref sig .tc .vmem S2000x1 .f32 := win2_2.stage (cfg2.slots t 2)
/-- It is a whole buffer. -/
abbrev stgW2 (t : Fin cfg2.N) : (stg2 t).IsWhole := hstage2_2 ((cfg2.slots t 2).cast nbuf2_2)
/-- Window 3's staging memref at point `t`. -/
abbrev stg3 (t : Fin cfg2.N) : Memref sig .tc .vmem S2000x60 .f32 := win2_3.stage (cfg2.slots t 3)
/-- It is a whole buffer. -/
abbrev stgW3 (t : Fin cfg2.N) : (stg3 t).IsWhole := hstage2_3 ((cfg2.slots t 3).cast nbuf2_3)
/-- Window 4's staging memref at point `t`. -/
abbrev stg4 (t : Fin cfg2.N) : Memref sig .tc .vmem S10000x64 .f32 := win2_4.stage (cfg2.slots t 4)
/-- It is a whole buffer. -/
abbrev stgW4 (t : Fin cfg2.N) : (stg4 t).IsWhole := hstage2_4 ((cfg2.slots t 4).cast nbuf2_4)

/-- The row scratch and the accumulator scratch. -/
abbrev rowsM : Memref sig .tc .vmem S2000x64 .f32 := Memref.whole cc2_scratch0
abbrev accM : Memref sig .tc .vmem S4x10000x64 .f32 := Memref.whole cc2_scratch1

variable (V : (c : Dev nD) → (b : Ref sig .tc) → Buf (Elt F) ((c : Thread nD τ).loc b))

/-- Window `w`'s block at point `t`, read off its array's entry contents. -/
def blockAt (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 holds its block whenever the body runs, for proof data over these entry contents that leave it there. -/
theorem held0_of {c : Dev nD} (dat : Dat τ (Elt F) Unit ℕ (UR sig nD τ) ℕ cfg2 c) (hA : dat.A 0 = V c (Pipeline.arrRef spec2 0))
    (hafter : ∀ t, dat.after 0 t = blockAt V c 0 t) (t : Fin cfg2.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- Input window 1 holds its block whenever the body runs, for proof data over these entry contents that leave it there. -/
theorem held1_of {c : Dev nD} (dat : Dat τ (Elt F) Unit ℕ (UR sig nD τ) ℕ cfg2 c) (hA : dat.A 1 = V c (Pipeline.arrRef spec2 1))
    (hafter : ∀ t, dat.after 1 t = blockAt V c 1 t) (t : Fin cfg2.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
/-- Input window 2 holds its block whenever the body runs, for proof data over these entry contents that leave it there. -/
theorem held2_of {c : Dev nD} (dat : Dat τ (Elt F) Unit ℕ (UR sig nD τ) ℕ cfg2 c) (hA : dat.A 2 = V c (Pipeline.arrRef spec2 2))
    (hafter : ∀ t, dat.after 2 t = blockAt V c 2 t) (t : Fin cfg2.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
/-- Input window 3 holds its block whenever the body runs, for proof data over these entry contents that leave it there. -/
theorem held3_of {c : Dev nD} (dat : Dat τ (Elt F) Unit ℕ (UR sig nD τ) ℕ cfg2 c) (hA : dat.A 3 = V c (Pipeline.arrRef spec2 3))
    (hafter : ∀ t, dat.after 3 t = blockAt V c 3 t) (t : Fin cfg2.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-- Every destination word of every block names a row of the accumulator. -/
def RowsOk : Prop := ∀ (c : Dev nD) (t : Fin cfg2.N),
  RowOk1 (stg0 t) (stgW0 t) (blockAt V c 0 t) ∧ RowOk2 (stg0 t) (stgW0 t) (blockAt V c 0 t)
    ∧ RowOk3 (stg0 t) (stgW0 t) (blockAt V c 0 t) ∧ RowOk4 (stg0 t) (stgW0 t) (blockAt V c 0 t)

end Cert.KernelIdeal.Scat

end
-- ==== Proof.KernelIdeal.ScatRunA.lean ====
/- The scatter kernel run at case A of its branches. -/
module

public import proofs.«01_k».proof.Proof.KernelIdeal.ScatBase

@[expose] public section

noncomputable section

namespace Cert.KernelIdeal.Scat

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the proof term is walked by the definition's epilogue past the default budget
set_option maxHeartbeats 1000000 in
/-- The body at the first point: the accumulator cleared, then every row of the block added in. The pieces are found by the run. -/
noncomputable def runA (c : Dev nD) (i : grid2.Coords) (arg1 : Memref sig .tc .smem S1x1x2000 .i32) (harg1 : arg1.IsWhole) (arg2 : Memref sig .tc .smem S1x1 .f32) (harg2 : arg2.IsWhole) (arg3 : Memref sig .tc .vmem S2000x1 .f32) (harg3 : arg3.IsWhole) (arg4 : Memref sig .tc .vmem S2000x60 .f32) (harg4 : arg4.IsWhole) (arg5 : Memref sig .tc .vmem S10000x64 .f32) (harg5 : arg5.IsWhole) (arg6 : Memref sig .tc .vmem S2000x64 .f32) (harg6 : arg6.IsWhole) (arg7 : Memref sig .tc .vmem S4x10000x64 .f32) (harg7 : arg7.IsWhole) (hc0 : AtFirst i) (hc1 : ¬AtLast i)
    (x0 : Vec F S1x1x2000 .i32) (x1 : Vec F S1x1 .f32) (x2 : Vec F S2000x1 .f32) (x3 : Vec F S2000x60 .f32)  (k2_hw1L : RowOk1 arg1 harg1 x0) (k2_hw2L : RowOk2 arg1 harg1 x0) (k2_hw3L : RowOk3 arg1 harg1 x0) (k2_hw4L : RowOk4 arg1 harg1 x0) :
    { LS : List (View.Piece (Elt F) S4x10000x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg6 fullShare d) ∗ (∃ f, arg7.view.loc (c : Thread nD τ) ↦[arg7.view.set]{fullShare} arg7.view.writes (Elt F) f LS)) -∗ K ⟨⟩))
          ⊢ wp frame (wpE (defs₀ (F := F)) Variants.none c none) E (cc2__scatter_kernel i arg1 harg1 arg2 harg2 arg3 harg3 arg4 harg4 arg5 harg5 arg6 harg6 arg7 harg7) K } := by
  refine ⟨?_, fun E K => ?run⟩
  case run =>
    simp only [cc2__scatter_kernel_eq_skeleton]; unfold cc2__scatter_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]
    · iexists _, _; isplitr; swap; · iexact HS0
      ipureintro; rfl
    iexists _; iexact HS1

/-- The first point stores the whole accumulator, so its pieces cover it. -/
theorem coverA (c : Dev nD) (i : grid2.Coords) (arg1 : Memref sig .tc .smem S1x1x2000 .i32) (harg1 : arg1.IsWhole) (arg2 : Memref sig .tc .smem S1x1 .f32) (harg2 : arg2.IsWhole) (arg3 : Memref sig .tc .vmem S2000x1 .f32) (harg3 : arg3.IsWhole) (arg4 : Memref sig .tc .vmem S2000x60 .f32) (harg4 : arg4.IsWhole) (arg5 : Memref sig .tc .vmem S10000x64 .f32) (harg5 : arg5.IsWhole) (arg6 : Memref sig .tc .vmem S2000x64 .f32) (harg6 : arg6.IsWhole) (arg7 : Memref sig .tc .vmem S4x10000x64 .f32) (harg7 : arg7.IsWhole) (hc0 : AtFirst i) (hc1 : ¬AtLast i)
    (x0 : Vec F S1x1x2000 .i32) (x1 : Vec F S1x1 .f32) (x2 : Vec F S2000x1 .f32) (x3 : Vec F S2000x60 .f32)  (k2_hw1L : RowOk1 arg1 harg1 x0) (k2_hw2L : RowOk2 arg1 harg1 x0) (k2_hw3L : RowOk3 arg1 harg1 x0) (k2_hw4L : RowOk4 arg1 harg1 x0) (y : S4x10000x64.Idx) :
    ∃ pc ∈ (runA c i arg1 harg1 arg2 harg2 arg3 harg3 arg4 harg4 arg5 harg5 arg6 harg6 arg7 harg7 hc0 hc1 x0 x1 x2 x3 k2_hw1L k2_hw2L k2_hw3L k2_hw4L).1, y ∈ pc.1.set :=
  View.cover_of_wholeMem (runA c i arg1 harg1 arg2 harg2 arg3 harg3 arg4 harg4 arg5 harg5 arg6 harg6 arg7 harg7 hc0 hc1 x0 x1 x2 x3 k2_hw1L k2_hw2L k2_hw3L k2_hw4L).1 (by sl_whole_mem) y

/-- What the first point leaves in the accumulator. -/
def leftA (c : Dev nD) (i : grid2.Coords) (arg1 : Memref sig .tc .smem S1x1x2000 .i32) (harg1 : arg1.IsWhole) (arg2 : Memref sig .tc .smem S1x1 .f32) (harg2 : arg2.IsWhole) (arg3 : Memref sig .tc .vmem S2000x1 .f32) (harg3 : arg3.IsWhole) (arg4 : Memref sig .tc .vmem S2000x60 .f32) (harg4 : arg4.IsWhole) (arg5 : Memref sig .tc .vmem S10000x64 .f32) (harg5 : arg5.IsWhole) (arg6 : Memref sig .tc .vmem S2000x64 .f32) (harg6 : arg6.IsWhole) (arg7 : Memref sig .tc .vmem S4x10000x64 .f32) (harg7 : arg7.IsWhole) (hc0 : AtFirst i) (hc1 : ¬AtLast i)
    (x0 : Vec F S1x1x2000 .i32) (x1 : Vec F S1x1 .f32) (x2 : Vec F S2000x1 .f32) (x3 : Vec F S2000x60 .f32)  (k2_hw1L : RowOk1 arg1 harg1 x0) (k2_hw2L : RowOk2 arg1 harg1 x0) (k2_hw3L : RowOk3 arg1 harg1 x0) (k2_hw4L : RowOk4 arg1 harg1 x0) : Vec F S4x10000x64 .f32 :=
  accM.view.read (Elt F) (accM.view.writes (Elt F) accM.view.junk (runA c i arg1 harg1 arg2 harg2 arg3 harg3 arg4 harg4 arg5 harg5 arg6 harg6 arg7 harg7 hc0 hc1 x0 x1 x2 x3 k2_hw1L k2_hw2L k2_hw3L k2_hw4L).1)

end Cert.KernelIdeal.Scat

end
-- ==== Proof.KernelIdeal.ScatRunB.lean ====
/- The scatter kernel run at case B of its branches. -/
module

public import proofs.«01_k».proof.Proof.KernelIdeal.ScatBase

@[expose] public section

noncomputable section

namespace Cert.KernelIdeal.Scat

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the proof term is walked by the definition's epilogue past the default budget
set_option maxHeartbeats 1000000 in
/-- The body at a middle point: every row of the block added into the accumulator it finds. The pieces are found by the run. -/
noncomputable def runB (c : Dev nD) (i : grid2.Coords) (arg1 : Memref sig .tc .smem S1x1x2000 .i32) (harg1 : arg1.IsWhole) (arg2 : Memref sig .tc .smem S1x1 .f32) (harg2 : arg2.IsWhole) (arg3 : Memref sig .tc .vmem S2000x1 .f32) (harg3 : arg3.IsWhole) (arg4 : Memref sig .tc .vmem S2000x60 .f32) (harg4 : arg4.IsWhole) (arg5 : Memref sig .tc .vmem S10000x64 .f32) (harg5 : arg5.IsWhole) (arg6 : Memref sig .tc .vmem S2000x64 .f32) (harg6 : arg6.IsWhole) (arg7 : Memref sig .tc .vmem S4x10000x64 .f32) (harg7 : arg7.IsWhole) (hc0 : ¬AtFirst i) (hc1 : ¬AtLast i)
    (x0 : Vec F S1x1x2000 .i32) (x1 : Vec F S1x1 .f32) (x2 : Vec F S2000x1 .f32) (x3 : Vec F S2000x60 .f32) (xs : Vec F S4x10000x64 .f32) (k2_hw1L : RowOk1 arg1 harg1 x0) (k2_hw2L : RowOk2 arg1 harg1 x0) (k2_hw3L : RowOk3 arg1 harg1 x0) (k2_hw4L : RowOk4 arg1 harg1 x0) :
    { LS : List (View.Piece (Elt F) S4x10000x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg6 fullShare d) ∗ owns (c : Thread nD τ) arg7 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg6 fullShare d) ∗ (arg7.view.loc (c : Thread nD τ) ↦[arg7.view.set]{fullShare} arg7.view.writes (Elt F) (harg7.unread xs) LS)) -∗ K ⟨⟩))
          ⊢ wp frame (wpE (defs₀ (F := F)) Variants.none c none) E (cc2__scatter_kernel i arg1 harg1 arg2 harg2 arg3 harg3 arg4 harg4 arg5 harg5 arg6 harg6 arg7 harg7) K } := by
  refine ⟨?_, fun E K => ?run⟩
  case run =>
    simp only [cc2__scatter_kernel_eq_skeleton]; unfold cc2__scatter_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg7.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]
    · iexists _, _; isplitr; swap; · iexact HS0
      ipureintro; rfl
    iexact HS1

/-- What such a point leaves in the accumulator, over what it finds there. -/
def leftB (c : Dev nD) (i : grid2.Coords) (arg1 : Memref sig .tc .smem S1x1x2000 .i32) (harg1 : arg1.IsWhole) (arg2 : Memref sig .tc .smem S1x1 .f32) (harg2 : arg2.IsWhole) (arg3 : Memref sig .tc .vmem S2000x1 .f32) (harg3 : arg3.IsWhole) (arg4 : Memref sig .tc .vmem S2000x60 .f32) (harg4 : arg4.IsWhole) (arg5 : Memref sig .tc .vmem S10000x64 .f32) (harg5 : arg5.IsWhole) (arg6 : Memref sig .tc .vmem S2000x64 .f32) (harg6 : arg6.IsWhole) (arg7 : Memref sig .tc .vmem S4x10000x64 .f32) (harg7 : arg7.IsWhole) (hc0 : ¬AtFirst i) (hc1 : ¬AtLast i)
    (x0 : Vec F S1x1x2000 .i32) (x1 : Vec F S1x1 .f32) (x2 : Vec F S2000x1 .f32) (x3 : Vec F S2000x60 .f32) (xs : Vec F S4x10000x64 .f32) (k2_hw1L : RowOk1 arg1 harg1 x0) (k2_hw2L : RowOk2 arg1 harg1 x0) (k2_hw3L : RowOk3 arg1 harg1 x0) (k2_hw4L : RowOk4 arg1 harg1 x0) : Vec F S4x10000x64 .f32 :=
  arg7.view.read (Elt F) (arg7.view.writes (Elt F) (harg7.unread xs) (runB c i arg1 harg1 arg2 harg2 arg3 harg3 arg4 harg4 arg5 harg5 arg6 harg6 arg7 harg7 hc0 hc1 x0 x1 x2 x3 xs k2_hw1L k2_hw2L k2_hw3L k2_hw4L).1)

end Cert.KernelIdeal.Scat

end
-- ==== Proof.KernelIdeal.ScatRunC.lean ====
/- The scatter kernel run at case C of its branches. -/
module

public import proofs.«01_k».proof.Proof.KernelIdeal.ScatBase

@[expose] public section

noncomputable section

namespace Cert.KernelIdeal.Scat

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the proof term is walked by the definition's epilogue past the default budget
set_option maxHeartbeats 1000000 in
/-- The body at the last point: every row added in, then the quotient stored to the output block. The pieces are found by the run. -/
noncomputable def runC (c : Dev nD) (i : grid2.Coords) (arg1 : Memref sig .tc .smem S1x1x2000 .i32) (harg1 : arg1.IsWhole) (arg2 : Memref sig .tc .smem S1x1 .f32) (harg2 : arg2.IsWhole) (arg3 : Memref sig .tc .vmem S2000x1 .f32) (harg3 : arg3.IsWhole) (arg4 : Memref sig .tc .vmem S2000x60 .f32) (harg4 : arg4.IsWhole) (arg5 : Memref sig .tc .vmem S10000x64 .f32) (harg5 : arg5.IsWhole) (arg6 : Memref sig .tc .vmem S2000x64 .f32) (harg6 : arg6.IsWhole) (arg7 : Memref sig .tc .vmem S4x10000x64 .f32) (harg7 : arg7.IsWhole) (hc0 : ¬AtFirst i) (hc1 : AtLast i)
    (x0 : Vec F S1x1x2000 .i32) (x1 : Vec F S1x1 .f32) (x2 : Vec F S2000x1 .f32) (x3 : Vec F S2000x60 .f32) (xs : Vec F S4x10000x64 .f32) (k2_hw1L : RowOk1 arg1 harg1 x0) (k2_hw2L : RowOk2 arg1 harg1 x0) (k2_hw3L : RowOk3 arg1 harg1 x0) (k2_hw4L : RowOk4 arg1 harg1 x0) :
    Σ' (LO : List (View.Piece (Elt F) S10000x64 .f32)), { LS : List (View.Piece (Elt F) S4x10000x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f LO) ∗ (∃ d, owns (c : Thread nD τ) arg6 fullShare d) ∗ (arg7.view.loc (c : Thread nD τ) ↦[arg7.view.set]{fullShare} arg7.view.writes (Elt F) (harg7.unread xs) LS)) -∗ K ⟨⟩))
          ⊢ wp frame (wpE (defs₀ (F := F)) Variants.none c none) E (cc2__scatter_kernel i arg1 harg1 arg2 harg2 arg3 harg3 arg4 harg4 arg5 harg5 arg6 harg6 arg7 harg7) K } := by
  refine ⟨?_, ?_, fun E K => ?run⟩
  case run =>
    simp only [cc2__scatter_kernel_eq_skeleton]; unfold cc2__scatter_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg7.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; iexact H4
    isplitl [HS0]
    · iexists _, _; isplitr; swap; · iexact HS0
      ipureintro; rfl
    iexact HS1

/-- What such a point leaves in the accumulator, over what it finds there. -/
def leftC (c : Dev nD) (i : grid2.Coords) (arg1 : Memref sig .tc .smem S1x1x2000 .i32) (harg1 : arg1.IsWhole) (arg2 : Memref sig .tc .smem S1x1 .f32) (harg2 : arg2.IsWhole) (arg3 : Memref sig .tc .vmem S2000x1 .f32) (harg3 : arg3.IsWhole) (arg4 : Memref sig .tc .vmem S2000x60 .f32) (harg4 : arg4.IsWhole) (arg5 : Memref sig .tc .vmem S10000x64 .f32) (harg5 : arg5.IsWhole) (arg6 : Memref sig .tc .vmem S2000x64 .f32) (harg6 : arg6.IsWhole) (arg7 : Memref sig .tc .vmem S4x10000x64 .f32) (harg7 : arg7.IsWhole) (hc0 : ¬AtFirst i) (hc1 : AtLast i)
    (x0 : Vec F S1x1x2000 .i32) (x1 : Vec F S1x1 .f32) (x2 : Vec F S2000x1 .f32) (x3 : Vec F S2000x60 .f32) (xs : Vec F S4x10000x64 .f32) (k2_hw1L : RowOk1 arg1 harg1 x0) (k2_hw2L : RowOk2 arg1 harg1 x0) (k2_hw3L : RowOk3 arg1 harg1 x0) (k2_hw4L : RowOk4 arg1 harg1 x0) : Vec F S4x10000x64 .f32 :=
  arg7.view.read (Elt F) (arg7.view.writes (Elt F) (harg7.unread xs) (runC c i arg1 harg1 arg2 harg2 arg3 harg3 arg4 harg4 arg5 harg5 arg6 harg6 arg7 harg7 hc0 hc1 x0 x1 x2 x3 xs k2_hw1L k2_hw2L k2_hw3L k2_hw4L).2.1)

/-- The output block is stored whole. -/
theorem coverOut (c : Dev nD) (i : grid2.Coords) (arg1 : Memref sig .tc .smem S1x1x2000 .i32) (harg1 : arg1.IsWhole) (arg2 : Memref sig .tc .smem S1x1 .f32) (harg2 : arg2.IsWhole) (arg3 : Memref sig .tc .vmem S2000x1 .f32) (harg3 : arg3.IsWhole) (arg4 : Memref sig .tc .vmem S2000x60 .f32) (harg4 : arg4.IsWhole) (arg5 : Memref sig .tc .vmem S10000x64 .f32) (harg5 : arg5.IsWhole) (arg6 : Memref sig .tc .vmem S2000x64 .f32) (harg6 : arg6.IsWhole) (arg7 : Memref sig .tc .vmem S4x10000x64 .f32) (harg7 : arg7.IsWhole) (hc0 : ¬AtFirst i) (hc1 : AtLast i)
    (x0 : Vec F S1x1x2000 .i32) (x1 : Vec F S1x1 .f32) (x2 : Vec F S2000x1 .f32) (x3 : Vec F S2000x60 .f32) (xs : Vec F S4x10000x64 .f32) (k2_hw1L : RowOk1 arg1 harg1 x0) (k2_hw2L : RowOk2 arg1 harg1 x0) (k2_hw3L : RowOk3 arg1 harg1 x0) (k2_hw4L : RowOk4 arg1 harg1 x0) (y : S10000x64.Idx) :
    ∃ pc ∈ (runC c i arg1 harg1 arg2 harg2 arg3 harg3 arg4 harg4 arg5 harg5 arg6 harg6 arg7 harg7 hc0 hc1 x0 x1 x2 x3 xs k2_hw1L k2_hw2L k2_hw3L k2_hw4L).1, y ∈ pc.1.set :=
  View.cover_of_tiledL (runC c i arg1 harg1 arg2 harg2 arg3 harg3 arg4 harg4 arg5 harg5 arg6 harg6 arg7 harg7 hc0 hc1 x0 x1 x2 x3 xs k2_hw1L k2_hw2L k2_hw3L k2_hw4L).1 S10000x64.size (by sl_kernel_rfl) y

/-- What the last point leaves in the output block. -/
def leftOut (c : Dev nD) (i : grid2.Coords) (arg1 : Memref sig .tc .smem S1x1x2000 .i32) (harg1 : arg1.IsWhole) (arg2 : Memref sig .tc .smem S1x1 .f32) (harg2 : arg2.IsWhole) (arg3 : Memref sig .tc .vmem S2000x1 .f32) (harg3 : arg3.IsWhole) (arg4 : Memref sig .tc .vmem S2000x60 .f32) (harg4 : arg4.IsWhole) (arg5 : Memref sig .tc .vmem S10000x64 .f32) (harg5 : arg5.IsWhole) (arg6 : Memref sig .tc .vmem S2000x64 .f32) (harg6 : arg6.IsWhole) (arg7 : Memref sig .tc .vmem S4x10000x64 .f32) (harg7 : arg7.IsWhole) (hc0 : ¬AtFirst i) (hc1 : AtLast i)
    (x0 : Vec F S1x1x2000 .i32) (x1 : Vec F S1x1 .f32) (x2 : Vec F S2000x1 .f32) (x3 : Vec F S2000x60 .f32) (xs : Vec F S4x10000x64 .f32) (k2_hw1L : RowOk1 arg1 harg1 x0) (k2_hw2L : RowOk2 arg1 harg1 x0) (k2_hw3L : RowOk3 arg1 harg1 x0) (k2_hw4L : RowOk4 arg1 harg1 x0) : Vec F S10000x64 .f32 :=
  (Memref.whole cc2_stg4_0 : Memref sig .tc .vmem S10000x64 .f32).view.read (Elt F) ((Memref.whole cc2_stg4_0 : Memref sig .tc .vmem S10000x64 .f32).view.writes (Elt F) (Memref.whole cc2_stg4_0 : Memref sig .tc .vmem S10000x64 .f32).view.junk (runC c i arg1 harg1 arg2 harg2 arg3 harg3 arg4 harg4 arg5 harg5 arg6 harg6 arg7 harg7 hc0 hc1 x0 x1 x2 x3 xs k2_hw1L k2_hw2L k2_hw3L k2_hw4L).1)

end Cert.KernelIdeal.Scat

end
-- ==== Proof.KernelIdeal.ScatDat.lean ====
/- The scatter kernel's proof data at given entry contents — the accumulator point by point, the output block at the last
   point — and its body obligation. -/
module

public import proofs.«01_k».proof.Proof.KernelIdeal.ScatRunA
public import proofs.«01_k».proof.Proof.KernelIdeal.ScatRunB
public import proofs.«01_k».proof.Proof.KernelIdeal.ScatRunC

@[expose] public section

set_option maxRecDepth 16384

noncomputable section

namespace Cert.KernelIdeal.Scat

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The accumulator after the first point. -/
abbrev accA (hH : RowsOk V) (c : Dev nD) (t : Fin cfg2.N) (h0 : t.val % 80 = 0) (h1 : ¬t.val % 80 = 79) : Vec F S4x10000x64 .f32 :=
  leftA c (grid2.coords t) (stg0 t) (stgW0 t) (stg1 t) (stgW1 t) (stg2 t) (stgW2 t) (stg3 t) (stgW3 t) (stg4 t) (stgW4 t) rowsM (Memref.isWhole_whole _) accM (Memref.isWhole_whole _) ((atFirst_iff t).mpr h0) (fun h => h1 ((atLast_iff t).mp h)) (blockAt V c 0 t) (blockAt V c 1 t) (blockAt V c 2 t) (blockAt V c 3 t) (hH c t).1 (hH c t).2.1 (hH c t).2.2.1 (hH c t).2.2.2
/-- The accumulator after a middle point that finds `xs`. -/
abbrev accB (hH : RowsOk V) (c : Dev nD) (t : Fin cfg2.N) (h0 : ¬t.val % 80 = 0) (h1 : ¬t.val % 80 = 79) (xs : Vec F S4x10000x64 .f32) : Vec F S4x10000x64 .f32 :=
  leftB c (grid2.coords t) (stg0 t) (stgW0 t) (stg1 t) (stgW1 t) (stg2 t) (stgW2 t) (stg3 t) (stgW3 t) (stg4 t) (stgW4 t) rowsM (Memref.isWhole_whole _) accM (Memref.isWhole_whole _) (fun h => h0 ((atFirst_iff t).mp h)) (fun h => h1 ((atLast_iff t).mp h)) (blockAt V c 0 t) (blockAt V c 1 t) (blockAt V c 2 t) (blockAt V c 3 t) xs (hH c t).1 (hH c t).2.1 (hH c t).2.2.1 (hH c t).2.2.2
/-- The accumulator after the last point, found at `xs`. -/
abbrev accC (hH : RowsOk V) (c : Dev nD) (t : Fin cfg2.N) (h0 : ¬t.val % 80 = 0) (h1 : t.val % 80 = 79) (xs : Vec F S4x10000x64 .f32) : Vec F S4x10000x64 .f32 :=
  leftC c (grid2.coords t) (stg0 t) (stgW0 t) (stg1 t) (stgW1 t) (stg2 t) (stgW2 t) (stg3 t) (stgW3 t) (stg4 t) (stgW4 t) rowsM (Memref.isWhole_whole _) accM (Memref.isWhole_whole _) (fun h => h0 ((atFirst_iff t).mp h)) ((atLast_iff t).mpr h1) (blockAt V c 0 t) (blockAt V c 1 t) (blockAt V c 2 t) (blockAt V c 3 t) xs (hH c t).1 (hH c t).2.1 (hH c t).2.2.1 (hH c t).2.2.2
/-- The output block after the last point, the accumulator found at `xs`. -/
abbrev outC (hH : RowsOk V) (c : Dev nD) (t : Fin cfg2.N) (h0 : ¬t.val % 80 = 0) (h1 : t.val % 80 = 79) (xs : Vec F S4x10000x64 .f32) : Vec F S10000x64 .f32 :=
  leftOut c (grid2.coords t) (stg0 t) (stgW0 t) (stg1 t) (stgW1 t) (stg2 t) (stgW2 t) (stg3 t) (stgW3 t) (stg4 t) (stgW4 t) rowsM (Memref.isWhole_whole _) accM (Memref.isWhole_whole _) (fun h => h0 ((atFirst_iff t).mp h)) ((atLast_iff t).mpr h1) (blockAt V c 0 t) (blockAt V c 1 t) (blockAt V c 2 t) (blockAt V c 3 t) xs (hH c t).1 (hH c t).2.1 (hH c t).2.2.1 (hH c t).2.2.2

/-- What the accumulator holds after point `n`. -/
def accAt (hH : RowsOk V) (c : Dev nD) : (n : ℕ) → n < cfg2.N → Vec F S4x10000x64 .f32
  | 0, hn => accA V hH c ⟨0, hn⟩ (Nat.zero_mod _) (fun h => by dsimp only at h; omega)
  | n + 1, hn =>
    if h0 : (n + 1) % 80 = 0 then
      False.elim (by have hN : n + 1 < 80 := lt_of_lt_of_eq hn (show cfg2.N = 80 from N_2); omega)
    else if h1 : (n + 1) % 80 = 79 then accC V hH c ⟨n + 1, hn⟩ h0 h1 (accAt hH c n (Nat.lt_of_succ_lt hn))
    else accB V hH c ⟨n + 1, hn⟩ h0 h1 (accAt hH c n (Nat.lt_of_succ_lt hn))

theorem accAt_first (hH : RowsOk V) (c : Dev nD) (t : Fin cfg2.N) (h0 : t.val % 80 = 0) (h1 : ¬t.val % 80 = 79) :
    accAt V hH c t.val t.isLt = accA V hH c t h0 h1 := by
  obtain ⟨n, hn⟩ := t
  cases n with
  | zero => rfl
  | succ n => exfalso; have hN : n + 1 < 80 := lt_of_lt_of_eq hn (show cfg2.N = 80 from N_2); dsimp only at h0; omega

theorem accAt_mid (hH : RowsOk V) (c : Dev nD) (t : Fin cfg2.N) (h0 : ¬t.val % 80 = 0) (h1 : ¬t.val % 80 = 79) :
    accAt V hH c t.val t.isLt = accB V hH c t h0 h1 (accAt V hH c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem accAt_last (hH : RowsOk V) (c : Dev nD) (t : Fin cfg2.N) (h0 : ¬t.val % 80 = 0) (h1 : t.val % 80 = 79) :
    accAt V hH c t.val t.isLt = accC V hH c t h0 h1 (accAt V hH c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- The output block after point `t`: the quotient at the last point, nothing of interest before. -/
def outAt (hH : RowsOk V) (c : Dev nD) (t : Fin cfg2.N) : Vec F S10000x64 .f32 :=
  if h1 : t.val % 80 = 79 then
    outC V hH c t (by omega) h1 (accAt V hH c (t.val - 1) (Nat.lt_of_le_of_lt (Nat.sub_le _ _) t.isLt))
  else Pipeline.Dat.unnamed (cfg := cfg2) 4 t

/-- The scoped buffers of the other calls, untouched. -/
abbrev others (c : Dev nD) : sProp 𝕄 :=
  Pipeline.scopedRestBut (Ix := Unit) (Name := ℕ) (U := UR sig nD τ) (Lvl := ℕ) (Val := Elt F) spec2 c [cc2_scratch0, cc2_scratch1]

/-- What the body keeps between points: the row scratch at anything, the accumulator at what the point before left. -/
def inv (hH : RowsOk V) (c : Dev nD) : (n : ℕ) → n ≤ cfg2.N → sProp 𝕄
  | 0, _ => iprop(iprop((∃ d, owns (c : Thread nD τ) rowsM fullShare d) ∗ (∃ d, owns (c : Thread nD τ) accM fullShare d)) ∗ others c ∗ (∃ r, prngReg c r))
  | n + 1, hn => iprop(iprop((∃ d, owns (c : Thread nD τ) rowsM fullShare d) ∗ owns (c : Thread nD τ) accM fullShare (accAt V hH c n hn)) ∗ others c ∗ (∃ r, prngReg c r))

theorem inv_zero (hH : RowsOk V) (c : Dev nD) (n : ℕ) (h : n ≤ cfg2.N) (hz : n = 0) :
    inv V hH c n h = iprop(iprop((∃ d, owns (c : Thread nD τ) rowsM fullShare d) ∗ (∃ d, owns (c : Thread nD τ) accM fullShare d)) ∗ others c ∗ (∃ r, prngReg c r)) := by
  subst hz; rfl
theorem inv_succ (hH : RowsOk V) (c : Dev nD) (n : ℕ) (hn : n < cfg2.N) :
    inv V hH c (n + 1) hn = iprop(iprop((∃ d, owns (c : Thread nD τ) rowsM fullShare d) ∗ owns (c : Thread nD τ) accM fullShare (accAt V hH c n hn)) ∗ others c ∗ (∃ r, prngReg c r)) := rfl
theorem inv_pos (hH : RowsOk V) (c : Dev nD) (n : ℕ) (h : n ≤ cfg2.N) (hz : n ≠ 0) :
    inv V hH c n h = iprop(iprop((∃ d, owns (c : Thread nD τ) rowsM fullShare d) ∗ owns (c : Thread nD τ) accM fullShare (accAt V hH c (n - 1) (by omega))) ∗ others c ∗ (∃ r, prngReg c r)) := by
  cases n with
  | zero => exact absurd rfl hz
  | succ n => rfl

/-- The proof data of the scatter pipeline on core `c`. -/
def datS (hH : RowsOk V) (c : Dev nD) : Dat τ (Elt F) Unit ℕ (UR sig nD τ) ℕ cfg2 c where
  A w := V c (Pipeline.arrRef spec2 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => outAt V hH c t
  Φ t := inv V hH c t.val (Nat.le_of_lt_succ t.isLt)
  q _ := fullShare
  owed _ := 0

theorem A_eq (hH : RowsOk V) (c : Dev nD) (w : Fin cfg2.W) : (datS V hH c).A w = V c (Pipeline.arrRef spec2 w) := by
  dsimp only [datS]
theorem inv_castSucc (hH : RowsOk V) (c : Dev nD) (t : Fin cfg2.N) :
    (datS V hH c).Φ t.castSucc = inv V hH c t.val (Nat.le_of_lt t.isLt) := by
  dsimp only [datS]; exact Pipeline.Dat.Φ_castSucc (inv V hH c) t
theorem after0 (hH : RowsOk V) (c : Dev nD) (t : Fin cfg2.N) : (datS V hH c).after 0 t = blockAt V c 0 t := by dsimp only [datS]
theorem after1 (hH : RowsOk V) (c : Dev nD) (t : Fin cfg2.N) : (datS V hH c).after 1 t = blockAt V c 1 t := by dsimp only [datS]
theorem after2 (hH : RowsOk V) (c : Dev nD) (t : Fin cfg2.N) : (datS V hH c).after 2 t = blockAt V c 2 t := by dsimp only [datS]
theorem after3 (hH : RowsOk V) (c : Dev nD) (t : Fin cfg2.N) : (datS V hH c).after 3 t = blockAt V c 3 t := by dsimp only [datS]
theorem after4 (hH : RowsOk V) (c : Dev nD) (t : Fin cfg2.N) : (datS V hH c).after 4 t = outAt V hH c t := by dsimp only [datS]
theorem held0 (hH : RowsOk V) (c : Dev nD) (t : Fin cfg2.N) (d) : (datS V hH c).before 0 t d = blockAt V c 0 t :=
  held0_of V (datS V hH c) (A_eq V hH c 0) (after0 V hH c) t d
theorem held1 (hH : RowsOk V) (c : Dev nD) (t : Fin cfg2.N) (d) : (datS V hH c).before 1 t d = blockAt V c 1 t :=
  held1_of V (datS V hH c) (A_eq V hH c 1) (after1 V hH c) t d
theorem held2 (hH : RowsOk V) (c : Dev nD) (t : Fin cfg2.N) (d) : (datS V hH c).before 2 t d = blockAt V c 2 t :=
  held2_of V (datS V hH c) (A_eq V hH c 2) (after2 V hH c) t d
theorem held3 (hH : RowsOk V) (c : Dev nD) (t : Fin cfg2.N) (d) : (datS V hH c).before 3 t d = blockAt V c 3 t :=
  held3_of V (datS V hH c) (A_eq V hH c 3) (after3 V hH c) t d

/-- The output window idles away from the last point, -/
theorem idle_of_not_last (t : Fin cfg2.N) (h1 : ¬t.val % 80 = 79) : cfg2.idle 4 (cfg2.grid.coords t) = true := by
  show (!(k2_cond2 (grid2.coords t) == 1#1)) = true
  have h : ¬ (k2_cond2 (grid2.coords t) = 1#1) := fun h => h1 ((atLast_iff t).mp h)
  simp [h]
/-- and works there, -/
theorem live_of_last (t : Fin cfg2.N) (h1 : t.val % 80 = 79) : cfg2.idle 4 (cfg2.grid.coords t) = false := by
  show (!(k2_cond2 (grid2.coords t) == 1#1)) = false
  have h : k2_cond2 (grid2.coords t) = 1#1 := (atLast_iff t).mpr h1
  simp [h]
/-- where alone it is written back. -/
theorem flush_of_not_last (t : Fin cfg2.N) (h1 : ¬t.val % 80 = 79) : (cfg2.win 4).flush t = false := by
  cases h : (cfg2.win 4).flush t with
  | false => rfl
  | true => exact absurd ((flush2_4 t).mp h) h1

/-- What the body is called with at point `t`, -/
def bodyPre (hH : RowsOk V) (c : Dev nD) (t : Fin cfg2.N) : sProp 𝕄 :=
  iprop((datS V hH c).Φ t.castSucc ∗ (datS V hH c).owesAt () t.castSucc
    ∗ (∃ d, owns (c : Thread nD τ) (stg0 t) fullShare ((datS V hH c).before 0 t d))
    ∗ (∃ d, owns (c : Thread nD τ) (stg1 t) fullShare ((datS V hH c).before 1 t d))
    ∗ (∃ d, owns (c : Thread nD τ) (stg2 t) fullShare ((datS V hH c).before 2 t d))
    ∗ (∃ d, owns (c : Thread nD τ) (stg3 t) fullShare ((datS V hH c).before 3 t d))
    ∗ (∃ d, owns (c : Thread nD τ) (stg4 t) fullShare ((datS V hH c).before 4 t d)))

/-- and what it returns. -/
def bodyPost (hH : RowsOk V) (c : Dev nD) (t : Fin cfg2.N) : sProp 𝕄 :=
  iprop((datS V hH c).Φ t.succ ∗ (datS V hH c).owesAt () t.succ
    ∗ (datS V hH c).leavesExact 0 t
    ∗ (datS V hH c).leavesExact 1 t
    ∗ (datS V hH c).leavesExact 2 t
    ∗ (datS V hH c).leavesExact 3 t
    ∗ (datS V hH c).leavesExact 4 t)

set_option maxHeartbeats 4800000 in
/-- The body at any point, case by case. -/
theorem sound_body (hH : RowsOk V) (c : Dev nD) (t : Fin cfg2.N) :
    bodyPre V hH c t ⊢ wp frame (wpE (defs₀ (F := F)) Variants.none c none) Set.univ (bodyAt2 t) (fun _ => bodyPost V hH c t) := by
  unfold bodyPre bodyPost bodyAt2
  simp only [held0, held1, held2, held3]
  rw [show (datS V hH c).owesAt () t.succ = (datS V hH c).owesAt () t.castSucc from rfl]
  rw [show (datS V hH c).Φ t.succ = inv V hH c (t.val + 1) t.isLt from rfl, inv_succ, inv_castSucc]
  have hN : t.val < 80 := lt_of_lt_of_eq t.isLt (show cfg2.N = 80 from N_2)
  have e0 : (datS V hH c).leavesExact 0 t = owns (c : Thread nD τ) (stg0 t) fullShare (blockAt V c 0 t) := by
    unfold Dat.leavesExact; rw [show cfg2.idle 0 (cfg2.grid.coords t) = false from rfl, after0]
  have e1 : (datS V hH c).leavesExact 1 t = owns (c : Thread nD τ) (stg1 t) fullShare (blockAt V c 1 t) := by
    unfold Dat.leavesExact; rw [show cfg2.idle 1 (cfg2.grid.coords t) = false from rfl, after1]
  have e2 : (datS V hH c).leavesExact 2 t = owns (c : Thread nD τ) (stg2 t) fullShare (blockAt V c 2 t) := by
    unfold Dat.leavesExact; rw [show cfg2.idle 2 (cfg2.grid.coords t) = false from rfl, after2]
  have e3 : (datS V hH c).leavesExact 3 t = owns (c : Thread nD τ) (stg3 t) fullShare (blockAt V c 3 t) := by
    unfold Dat.leavesExact; rw [show cfg2.idle 3 (cfg2.grid.coords t) = false from rfl, after3]
  rw [e0, e1, e2, e3]
  by_cases h1 : t.val % 80 = 79
  · have h0 : ¬t.val % 80 = 0 := by omega
    have e4 : (datS V hH c).leavesExact 4 t = owns (c : Thread nD τ) (stg4 t) fullShare (outC V hH c t h0 h1 (accAt V hH c (t.val - 1) (Nat.lt_of_le_of_lt (Nat.sub_le _ _) t.isLt))) := by
      unfold Dat.leavesExact; rw [live_of_last t h1, after4, outAt, dif_pos h1]
    rw [e4, inv_pos V hH c _ _ (by omega), accAt_last V hH c t h0 h1]
    unfold outC accC leftOut leftC
    iintro ⟨⟨⟨HS0, HS1⟩, HR, Hg⟩, Ho, ⟨%d0, H0⟩, ⟨%d1, H1⟩, ⟨%d2, H2⟩, ⟨%d3, H3⟩, H4⟩
    iapply ((runC c (grid2.coords t) _ _ _ _ _ _ _ _ _ _ _ _ _ _ (fun h => h0 ((atFirst_iff t).mp h)) ((atLast_iff t).mpr h1) (blockAt V c 0 t) (blockAt V c 1 t) (blockAt V c 2 t) (blockAt V c 3 t) _ (hH c t).1 (hH c t).2.1 (hH c t).2.2.1 (hH c t).2.2.2).2.2 Set.univ _)
    isplitl [H0]; · iexact H0
    isplitl [H1]; · iexact H1
    isplitl [H2]; · iexact H2
    isplitl [H3]; · iexact H3
    isplitl [H4]; · icases H4 with ⟨%d4, H4⟩; iexists _; iexact H4
    isplitl [HS0]; · iexact HS0
    isplitl [HS1]; · iexact HS1
    iintro ⟨H0, H1, H2, H3, ⟨%e4, H4⟩, HS0, HS1⟩
    isplitl [HS0 HS1 HR Hg]
    · isplitl [HS0 HS1]
      · isplitl [HS0]; · iexact HS0
        unfold owns; iexists _; isplitr
        swap; · iexact HS1
        ipureintro; rfl
      isplitl [HR]; · iexact HR
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverOut c _ _ _ _ _ _ _ _ _ _ _ _ _ _ _ _ _ _ _ _ _ _ _ _ _ _)
  · rw [Dat.leavesExact_idle (datS V hH c) 4 t (idle_of_not_last t h1) (flush_of_not_last t h1)]
    by_cases h0 : t.val % 80 = 0
    · rw [inv_zero V hH c _ _ (by omega), accAt_first V hH c t h0 h1]
      unfold accA leftA
      iintro ⟨⟨⟨HS0, HS1⟩, HR, Hg⟩, Ho, ⟨%d0, H0⟩, ⟨%d1, H1⟩, ⟨%d2, H2⟩, ⟨%d3, H3⟩, H4⟩
      iapply ((runA c (grid2.coords t) _ _ _ _ _ _ _ _ _ _ _ _ _ _ ((atFirst_iff t).mpr h0) (fun h => h1 ((atLast_iff t).mp h)) (blockAt V c 0 t) (blockAt V c 1 t) (blockAt V c 2 t) (blockAt V c 3 t) (hH c t).1 (hH c t).2.1 (hH c t).2.2.1 (hH c t).2.2.2).2 Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, ⟨%es1, HS1⟩⟩
      isplitl [HS0 HS1 HR Hg]
      · isplitl [HS0 HS1]
        · isplitl [HS0]; · iexact HS0
          unfold owns; iexists _; isplitr
          swap; · iexact HS1
          ipureintro; exact View.read_writes_of_cover _ _ _ _ _ (coverA c _ _ _ _ _ _ _ _ _ _ _ _ _ _ _ _ _ _ _ _ _ _ _ _ _)
        isplitl [HR]; · iexact HR
        iexact Hg
      isplitl [Ho]; · iexact Ho
      isplitl [H0]; · iexact H0
      isplitl [H1]; · iexact H1
      isplitl [H2]; · iexact H2
      isplitl [H3]; · iexact H3
      iexact H4
    · rw [inv_pos V hH c _ _ (by omega), accAt_mid V hH c t h0 h1]
      unfold accB leftB
      iintro ⟨⟨⟨HS0, HS1⟩, HR, Hg⟩, Ho, ⟨%d0, H0⟩, ⟨%d1, H1⟩, ⟨%d2, H2⟩, ⟨%d3, H3⟩, H4⟩
      iapply ((runB c (grid2.coords t) _ _ _ _ _ _ _ _ _ _ _ _ _ _ (fun h => h0 ((atFirst_iff t).mp h)) (fun h => h1 ((atLast_iff t).mp h)) (blockAt V c 0 t) (blockAt V c 1 t) (blockAt V c 2 t) (blockAt V c 3 t) _ (hH c t).1 (hH c t).2.1 (hH c t).2.2.1 (hH c t).2.2.2).2 Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 HR Hg]
      · isplitl [HS0 HS1]
        · isplitl [HS0]; · iexact HS0
          unfold owns; iexists _; isplitr
          swap; · iexact HS1
          ipureintro; rfl
        isplitl [HR]; · iexact HR
        iexact Hg
      isplitl [Ho]; · iexact Ho
      isplitl [H0]; · iexact H0
      isplitl [H1]; · iexact H1
      isplitl [H2]; · iexact H2
      isplitl [H3]; · iexact H3
      iexact H4

/-- The body table's row at point `t`'s slots is the body. -/
theorem defs₀_row (t : Fin cfg2.N) : defs₀ (F := F) .tc cfg2.body (cfg2.bodyArgs t (cfg2.slots t)) = bodyAt2 t := by
  unfold defs₀; rw [Defs.onTc_tc]

/-- The library's body obligation, at every point. -/
theorem body_obligation (hH : RowsOk V) (c : Dev nD) : BodyObligation (datS V hH c) (defs₀ (F := F)) Variants.none () Set.univ := fun t => by
  rw [bigSep_W2, bigSep_W2, defs₀_row]
  exact triple_restated (sound_body V hH c t) rfl .rfl fun _ => .rfl

/-- The scoped buffers and the generator register make the invariant before the first point, -/
theorem enter (hH : RowsOk V) (c : Dev nD) :
    iprop(Pipeline.scopedRest (Ix := Unit) (Name := ℕ) (U := UR sig nD τ) (Lvl := ℕ) (Val := Elt F) spec2 c ∗ (∃ r, prngReg c r)) ⊢ (datS V hH c).Φ 0 := by
  rw [show (datS V hH c).Φ 0 = inv V hH c 0 (Nat.zero_le _) from rfl, inv_zero V hH c 0 _ rfl, scopedRest2_split]
  simp only [rowsM, accM, owns_whole]
  iintro ⟨⟨HS, HR⟩, Hg⟩
  isplitl [HS]; · iexact HS
  isplitl [HR]; · iexact HR
  iexact Hg

/-- and the invariant after the last point gives them back. -/
theorem leave (hH : RowsOk V) (c : Dev nD) :
    (datS V hH c).Φ (Fin.last cfg2.N) ⊢ iprop(Pipeline.scopedRest (Ix := Unit) (Name := ℕ) (U := UR sig nD τ) (Lvl := ℕ) (Val := Elt F) spec2 c ∗ (∃ r, prngReg c r)) := by
  rw [show (datS V hH c).Φ (Fin.last cfg2.N) = inv V hH c cfg2.N (Nat.le_refl _) from rfl,
    inv_pos V hH c _ _ (by rw [show cfg2.N = 80 from N_2]; decide), scopedRest2_split]
  simp only [rowsM, accM, owns_whole]
  iintro ⟨⟨HS0, HS1⟩, HR, Hg⟩
  isplitl [HS0 HS1 HR]
  · isplitl [HS0 HS1]
    · isplitl [HS0]; · iexact HS0
      iexists _; iexact HS1
    iexact HR
  iexact Hg

end Cert.KernelIdeal.Scat

end
-- ==== Proof.KernelIdeal.Whole.lean ====
/- The three regions of the program chained: what each leaves in its output arrays, the record of the scatter region,
   and the run of the whole program with the contents of every buffer at its end. -/
module

public import proofs.«01_k».proof.Proof.KernelIdeal.ScatDat
public import proofs.«01_k».proof.Proof.Gen.KernelIdeal.Regions
public import proofs.«01_k».proof.Proof.Gen.Own.KernelIdeal.K0.Frame
public import proofs.«01_k».proof.Proof.Gen.Own.KernelIdeal.K1.Frame
public import Idealize.ShloMosaic.Lib.Pipeline.RegionArrays

@[expose] public section

-- memberships in the program's list of buffers are decided
set_option maxRecDepth 3240

noncomputable section

namespace Cert.KernelIdeal.Whole

open Cert.KernelIdeal Cert.KernelIdeal.Gen Cert.KernelIdeal.Own
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

/-! ## Contents, region by region -/

/-- The scatter region's entry contents. -/
abbrev Ve2 (m : (ℓ : Loc nD τ sig) → Buf (Elt F) ℓ) (outs : Outs (F := F)) (c : Dev nD) (b : Ref sig .tc) : Buf (Elt F) ((c : Thread nD τ).loc b) :=
  V9 m outs c (Proc.devRef .tc b)

/-- The node embedding's entry contents. -/
abbrev Ve0 (m : (ℓ : Loc nD τ sig) → Buf (Elt F) ℓ) (c : Dev nD) (b : Ref sig .tc) : Buf (Elt F) ((c : Thread nD τ).loc b) :=
  V1 m c (Proc.devRef .tc b)
/-- The edge kernel's. -/
abbrev Ve1 (m : (ℓ : Loc nD τ sig) → Buf (Elt F) ℓ) (outs : Outs (F := F)) (c : Dev nD) (b : Ref sig .tc) : Buf (Elt F) ((c : Thread nD τ).loc b) :=
  V7 m outs c (Proc.devRef .tc b)

/-- The node embedding's proof data. -/
abbrev dNode (m : (ℓ : Loc nD τ sig) → Buf (Elt F) ℓ) (c : Dev nD) : Dat τ (Elt F) Unit ℕ (UR sig nD τ) ℕ cfg0 c :=
  K0.dat Variants.none (Ve0 m) 0 c
/-- The edge kernel's proof data. -/
abbrev dEdge (m : (ℓ : Loc nD τ sig) → Buf (Elt F) ℓ) (outs : Outs (F := F)) (c : Dev nD) : Dat τ (Elt F) Unit ℕ (UR sig nD τ) ℕ cfg1 c :=
  K1.dat Variants.none (Ve1 m outs) 0 c

/-- What is known after the first region: its output array. -/
def outsA (m : (ℓ : Loc nD τ sig) → Buf (Elt F) ℓ) : Outs (F := F) := fun _ =>
  Function.update (fun r c => m ((c : Thread nD τ).loc r)) main_v4 (fun c => (dNode m c).arrAt 2 cfg0.N)
/-- What is known after the second: the edge kernel's three output arrays too. -/
def outsB (m : (ℓ : Loc nD τ sig) → Buf (Elt F) ℓ) : Outs (F := F) := fun n =>
  Function.update (Function.update (Function.update (outsA m n)
    main_v20_0 (fun c => (dEdge m (outsA m) c).arrAt 13 cfg1.N))
    main_v20_1 (fun c => (dEdge m (outsA m) c).arrAt 14 cfg1.N))
    main_v20_2 (fun c => (dEdge m (outsA m) c).arrAt 15 cfg1.N)
/-- What the scatter region needs: every destination word of its blocks names a row. -/
abbrev DstOk (m : (ℓ : Loc nD τ sig) → Buf (Elt F) ℓ) : Prop := Scat.RowsOk (Ve2 m (outsB m))
/-- What is known at the end: the scatter kernel's output array too. -/
def outsC (m : (ℓ : Loc nD τ sig) → Buf (Elt F) ℓ) (h : DstOk m) : Outs (F := F) := fun n =>
  Function.update (outsB m n) main_v24 (fun c => (Scat.datS (Ve2 m (outsB m)) h c).arrAt 4 cfg2.N)

/-! The contents before a region depend on what earlier regions left alone. -/

theorem V7_congr (m : (ℓ : Loc nD τ sig) → Buf (Elt F) ℓ) {o o' : Outs (F := F)} (h : ∀ c, o 2 main_v4 c = o' 2 main_v4 c) : V7 m o = V7 m o' := by
  funext c
  have h2 : V2 m o c = V2 m o' c := by simp only [V2, h c]
  simp only [V7, V6, V5, V4, V3, h2]
theorem V9_congr (m : (ℓ : Loc nD τ sig) → Buf (Elt F) ℓ) {o o' : Outs (F := F)} (h : ∀ c, o 2 main_v4 c = o' 2 main_v4 c)
    (h0 : ∀ c, o 8 main_v20_0 c = o' 8 main_v20_0 c) (h1 : ∀ c, o 8 main_v20_1 c = o' 8 main_v20_1 c)
    (h2 : ∀ c, o 8 main_v20_2 c = o' 8 main_v20_2 c) : V9 m o = V9 m o' := by
  funext c
  have h8 : V8 m o c = V8 m o' c := by simp only [V8, h0 c, h1 c, h2 c]; rw [congrFun (V7_congr m h) c]
  simp only [V9, h8]

theorem outsA_node (m : (ℓ : Loc nD τ sig) → Buf (Elt F) ℓ) (n : ℕ) (c : Dev nD) : outsA m n main_v4 c = (dNode m c).arrAt 2 cfg0.N := by
  simp only [outsA, Function.update_self]
theorem outsB_node (m : (ℓ : Loc nD τ sig) → Buf (Elt F) ℓ) (n : ℕ) (c : Dev nD) : outsB m n main_v4 c = outsA m n main_v4 c := by
  simp only [outsB, Function.update_of_ne (show main_v4 ≠ main_v20_0 by decide), Function.update_of_ne (show main_v4 ≠ main_v20_1 by decide),
    Function.update_of_ne (show main_v4 ≠ main_v20_2 by decide)]
theorem outsB_logits (m : (ℓ : Loc nD τ sig) → Buf (Elt F) ℓ) (n : ℕ) (c : Dev nD) : outsB m n main_v20_0 c = (dEdge m (outsA m) c).arrAt 13 cfg1.N := by
  simp only [outsB, Function.update_of_ne (show main_v20_0 ≠ main_v20_1 by decide), Function.update_of_ne (show main_v20_0 ≠ main_v20_2 by decide), Function.update_self]
theorem outsB_values (m : (ℓ : Loc nD τ sig) → Buf (Elt F) ℓ) (n : ℕ) (c : Dev nD) : outsB m n main_v20_1 c = (dEdge m (outsA m) c).arrAt 14 cfg1.N := by
  simp only [outsB, Function.update_of_ne (show main_v20_1 ≠ main_v20_2 by decide), Function.update_self]
theorem outsB_max (m : (ℓ : Loc nD τ sig) → Buf (Elt F) ℓ) (n : ℕ) (c : Dev nD) : outsB m n main_v20_2 c = (dEdge m (outsA m) c).arrAt 15 cfg1.N := by
  simp only [outsB, Function.update_self]
theorem outsC_of_ne (m : (ℓ : Loc nD τ sig) → Buf (Elt F) ℓ) (h : DstOk m) (n : ℕ) (r : Ref sig .tc) (hr : r ≠ main_v24) (c : Dev nD) :
    outsC m h n r c = outsB m n r c := by
  simp only [outsC, Function.update_of_ne hr]
theorem outsC_out (m : (ℓ : Loc nD τ sig) → Buf (Elt F) ℓ) (h : DstOk m) (n : ℕ) (c : Dev nD) :
    outsC m h n main_v24 c = (Scat.datS (Ve2 m (outsB m)) h c).arrAt 4 cfg2.N := by
  simp only [outsC, Function.update_self]

theorem V7_B (m : (ℓ : Loc nD τ sig) → Buf (Elt F) ℓ) : V7 m (outsB m) = V7 m (outsA m) := V7_congr m (outsB_node m 2)
theorem V7_C (m : (ℓ : Loc nD τ sig) → Buf (Elt F) ℓ) (h : DstOk m) : V7 m (outsC m h) = V7 m (outsA m) :=
  V7_congr m fun c => (outsC_of_ne m h 2 main_v4 (by decide) c).trans (outsB_node m 2 c)
theorem V9_C (m : (ℓ : Loc nD τ sig) → Buf (Elt F) ℓ) (h : DstOk m) : V9 m (outsC m h) = V9 m (outsB m) :=
  V9_congr m (outsC_of_ne m h 2 main_v4 (by decide)) (outsC_of_ne m h 8 main_v20_0 (by decide))
    (outsC_of_ne m h 8 main_v20_1 (by decide)) (outsC_of_ne m h 8 main_v20_2 (by decide))
theorem Ve1_C (m : (ℓ : Loc nD τ sig) → Buf (Elt F) ℓ) (h : DstOk m) : Ve1 m (outsC m h) = Ve1 m (outsA m) := by
  funext c b; exact congrFun (congrFun (V7_C m h) c) _
theorem Ve2_C (m : (ℓ : Loc nD τ sig) → Buf (Elt F) ℓ) (h : DstOk m) : Ve2 m (outsC m h) = Ve2 m (outsB m) := by
  funext c b; exact congrFun (congrFun (V9_C m h) c) _
theorem dstOk_C (m : (ℓ : Loc nD τ sig) → Buf (Elt F) ℓ) (h : DstOk m) : Scat.RowsOk (Ve2 m (outsC m h)) := by
  rw [Ve2_C m h]; exact h

/-- Equal entry contents, equal proof data. -/
theorem datS_congr {V V' : (c : Dev nD) → (b : Ref sig .tc) → Buf (Elt F) ((c : Thread nD τ).loc b)} (e : V = V') (h : Scat.RowsOk V)
    (h' : Scat.RowsOk V') (c : Dev nD) : Scat.datS V h c = Scat.datS V' h' c := by
  subst e; rfl

/-! ## The regions' records -/

/-- The proof data of every pipeline. -/
def pd (m : (ℓ : Loc nD τ sig) → Buf (Elt F) ℓ) (outs : Outs (F := F)) (h : Scat.RowsOk (Ve2 m outs)) :
    (p : Fin 3) → (c : Dev nD) → Dat τ (Elt F) Unit ℕ (UR sig nD τ) ℕ (cfgs p) c
  | ⟨0, _⟩ => fun c => dNode m c
  | ⟨1, _⟩ => fun c => dEdge m outs c
  | ⟨2, _⟩ => fun c => Scat.datS (Ve2 m outs) h c

/-- Only the TensorCores' semaphores are in use. -/
abbrev Lv (g : GSem nD τ sig) : Finset Unit := if g.1.2 = .tc then {()} else ∅
/-- All at one level, -/
abbrev lvl (_ : GSem nD τ sig) (_ : Unit) : ℕ := 0
/-- and no core owes a thing while a region runs. -/
theorem cut (p : Fin 3) : Pipeline.LevelCut (pcfgs (F := F)) adm () Lv lvl p (0 : Dev nD → CellTallies nD τ sig Unit) (fun _ => 0) where
  hι c w s := by rw [Lv, if_pos rfl]; exact Finset.mem_singleton_self ()
  hιb c w s := le_refl 0
  hD c g i h := absurd h (by simp)

/-- What rides along the whole program: the generator register, and that nothing is owed. -/
abbrev rest (c : Dev nD) : sProp 𝕄 := iprop((∃ r, prngReg c r) ∗ ∃ W, owes (c : Thread nD τ) (0 : CellTallies nD τ sig Unit) W)

theorem rest_in (c : Dev nD) : rest (F := F) c ⊢ iprop((∃ r, prngReg c r) ∗ (∃ W, owes (c : Thread nD τ) ((0 : Dev nD → CellTallies nD τ sig Unit) c) W) ∗ emp) := by
  iintro ⟨Hp, HO⟩
  isplitl [Hp]; · iexact Hp
  isplitl [HO]; · iexact HO
  iempintro
theorem rest_out (c : Dev nD) : iprop((∃ r, prngReg c r) ∗ (∃ W, owes (c : Thread nD τ) ((0 : Dev nD → CellTallies nD τ sig Unit) c) W) ∗ emp) ⊢ rest (F := F) c := by
  iintro ⟨Hp, HO, -⟩
  isplitl [Hp]; · iexact Hp
  iexact HO

/-- Each window's array of the node embedding region is in the region's array set, -/
theorem arr0_mem (w : Fin cfg0.W) : (Proc.devRef .tc (Pipeline.arrRef spec0 w) : DevRef τ sig) ∈ Pipeline.arrRefs (τ := τ) spec0 :=
  Finset.mem_map_of_mem _ (Finset.mem_image_of_mem _ (Finset.mem_univ w))
/-- and the set is among the held buffers. -/
theorem arr0_sub : Pipeline.arrRefs (τ := τ) spec0 ⊆ Pipeline.ucRefs τ sig := Pipeline.arrRefs_sub_ucRefs spec0 (by decide)
theorem at_main_v4 (m : (ℓ : Loc nD τ sig) → Buf (Elt F) ℓ) (outs : Outs (F := F)) (c : Dev nD) : V2 m outs c (Proc.devRef .tc main_v4) = outs 2 main_v4 c := by
  simp only [V2,  Function.update_self]
/-- Off its arrays the node embedding region changes no buffer. -/
theorem off0 (m : (ℓ : Loc nD τ sig) → Buf (Elt F) ℓ) (outs : Outs (F := F)) (c : Dev nD) :
    ∀ b ∈ (Pipeline.ucRefs τ sig) \ Pipeline.arrRefs (τ := τ) spec0, V2 m outs c b = V1 m c b := fun b hb => by
  have hn : b ∉ Pipeline.arrRefs (τ := τ) spec0 := (Finset.mem_sdiff.mp hb).2
  have h2 : b ≠ Proc.devRef .tc main_v4 := by rintro rfl; exact hn (by first | exact arr0_mem 2 | decide)
  simp only [V2, Function.update_of_ne h2]

theorem exit0_0 (m : (ℓ : Loc nD τ sig) → Buf (Elt F) ℓ) (outs : Outs (F := F)) (h : Scat.RowsOk (Ve2 m outs)) (c : Dev nD) :
    (dNode m c).arrAt 0 cfg0.N = V2 m outs c (Proc.devRef .tc (Pipeline.arrRef spec0 0)) :=
  ((dNode m c).arrAt_in 0 rfl _).trans ((K0.A_eq (U := UR sig nD τ) (Lvl := ℕ) Variants.none (Ve0 m) 0 c 0).trans (V2_of m outs c (Pipeline.arrRef spec0 0) (by decide)).symm)
theorem exit0_1 (m : (ℓ : Loc nD τ sig) → Buf (Elt F) ℓ) (outs : Outs (F := F)) (h : Scat.RowsOk (Ve2 m outs)) (c : Dev nD) :
    (dNode m c).arrAt 1 cfg0.N = V2 m outs c (Proc.devRef .tc (Pipeline.arrRef spec0 1)) :=
  ((dNode m c).arrAt_in 1 rfl _).trans ((K0.A_eq (U := UR sig nD τ) (Lvl := ℕ) Variants.none (Ve0 m) 0 c 1).trans (V2_of m outs c (Pipeline.arrRef spec0 1) (by decide)).symm)
theorem exit0_2 (m : (ℓ : Loc nD τ sig) → Buf (Elt F) ℓ) (outs : Outs (F := F)) (h : Scat.RowsOk (Ve2 m outs)) (hout2 : ∀ c : Dev nD, outs 2 main_v4 c = (dNode m c).arrAt 2 cfg0.N) (c : Dev nD) :
    (dNode m c).arrAt 2 cfg0.N = V2 m outs c (Proc.devRef .tc (Pipeline.arrRef spec0 2)) :=
  (hout2 c).symm.trans (at_main_v4 m outs c).symm

/-- Every array's contents when the region ends. -/
theorem exit0 (m : (ℓ : Loc nD τ sig) → Buf (Elt F) ℓ) (outs : Outs (F := F)) (h : Scat.RowsOk (Ve2 m outs)) (hout2 : ∀ c : Dev nD, outs 2 main_v4 c = (dNode m c).arrAt 2 cfg0.N) (c : Dev nD) : ∀ w : Fin cfg0.W,
    (dNode m c).arrAt w cfg0.N = V2 m outs c (Proc.devRef .tc (Pipeline.arrRef spec0 w)) :=
  fun | 0 => exit0_0 m outs h c | 1 => exit0_1 m outs h c | 2 => exit0_2 m outs h hout2 c | ⟨_ + 3, h⟩ => absurd h (Nat.not_lt.2 (Nat.le_add_left _ _))

set_option backward.isDefEq.respectTransparency.types false in
/-- The node embedding region: its arrays held in and out, everything else riding. -/
def reg0 (m : (ℓ : Loc nD τ sig) → Buf (Elt F) ℓ) (outs : Outs (F := F)) (h : Scat.RowsOk (Ve2 m outs)) (hout2 : ∀ c : Dev nD, outs 2 main_v4 c = (dNode m c).arrAt 2 cfg0.N) :
    RegionSeg (pcfgs (F := F)) adm (pd m outs h) () defs₀ Variants.none Lv lvl 0 :=
  Pipeline.RegionSeg.ofHeld (pcfgs (F := F)) adm (pd m outs h) () defs₀ Variants.none Lv lvl 0 0
    (fun c => iprop(∃ r, prngReg c r)) (fun c => iprop(∃ r, prngReg c r)) launch0.toP rfl
    (fun c => (K0.body_obligation (U := UR sig nD τ) (Lvl := ℕ) Variants.none (Ve0 m) 0 () c).loose) (fun _ _ => rfl) (fun _ => rfl)
    (fun c => ((pd m outs h) 0 c).share_full fun _ => rfl) (fun c => .rfl) (fun c => .rfl) (fun _ => 0) (cut 0)
    (fun c => iprop(StableHlo.held (c : Thread nD τ) ((Pipeline.ucRefs τ sig) \ Pipeline.arrRefs (τ := τ) spec0) (V1 m c) ∗ emp))
    (V1 m) (V2 m outs) (fun _ _ => rfl) (fun c w => exit0 m outs h hout2 c w)

theorem pre0 (m : (ℓ : Loc nD τ sig) → Buf (Elt F) ℓ) (outs : Outs (F := F)) (h : Scat.RowsOk (Ve2 m outs)) (hout2 : ∀ c : Dev nD, outs 2 main_v4 c = (dNode m c).arrAt 2 cfg0.N) (c : Dev nD) :
    iprop(StableHlo.held (c : Thread nD τ) (Pipeline.ucRefs τ sig) (V1 m c) ∗ rest c) ⊢ (reg0 m outs h hout2).pre c := by
  show _ ⊢ iprop(StableHlo.held (c : Thread nD τ) (Pipeline.arrRefs (τ := τ) spec0) (V1 m c) ∗ (∃ r, prngReg c r)
    ∗ (StableHlo.held (c : Thread nD τ) ((Pipeline.ucRefs τ sig) \ Pipeline.arrRefs (τ := τ) spec0) (V1 m c) ∗ emp)
    ∗ ∃ W, owes (c : Thread nD τ) ((0 : Dev nD → CellTallies nD τ sig Unit) c) W)
  rw [StableHlo.held_sub_split (c : Thread nD τ) arr0_sub (V1 m c)]
  iintro ⟨⟨Ha, Hr⟩, Hp, HO⟩
  isplitl [Ha]; · iexact Ha
  isplitl [Hp]; · iexact Hp
  isplitl [Hr]
  · isplitl [Hr]; · iexact Hr
    iempintro
  iexact HO

theorem post0 (m : (ℓ : Loc nD τ sig) → Buf (Elt F) ℓ) (outs : Outs (F := F)) (h : Scat.RowsOk (Ve2 m outs)) (hout2 : ∀ c : Dev nD, outs 2 main_v4 c = (dNode m c).arrAt 2 cfg0.N) (c : Dev nD) :
    (reg0 m outs h hout2).post c ⊢ iprop(StableHlo.held (c : Thread nD τ) (Pipeline.ucRefs τ sig) (V2 m outs c) ∗ rest c) := by
  show iprop(StableHlo.held (c : Thread nD τ) (Pipeline.arrRefs (τ := τ) spec0) (V2 m outs c) ∗ (∃ r, prngReg c r)
    ∗ (StableHlo.held (c : Thread nD τ) ((Pipeline.ucRefs τ sig) \ Pipeline.arrRefs (τ := τ) spec0) (V1 m c) ∗ emp)
    ∗ ∃ W, owes (c : Thread nD τ) ((0 : Dev nD → CellTallies nD τ sig Unit) c) W) ⊢ _
  rw [StableHlo.held_sub_split (c : Thread nD τ) arr0_sub (V2 m outs c),
    StableHlo.held_congr (c : Thread nD τ) (S := (Pipeline.ucRefs τ sig) \ Pipeline.arrRefs (τ := τ) spec0) (off0 m outs c)]
  iintro ⟨Ha, Hp, ⟨Hr, -⟩, HO⟩
  isplitl [Ha Hr]; · isplitl [Ha] <;> iassumption
  isplitl [Hp]; · iexact Hp
  iexact HO

/-- Each window's array of the edge region is in the region's array set, -/
theorem arr1_mem (w : Fin cfg1.W) : (Proc.devRef .tc (Pipeline.arrRef spec1 w) : DevRef τ sig) ∈ Pipeline.arrRefs (τ := τ) spec1 :=
  Finset.mem_map_of_mem _ (Finset.mem_image_of_mem _ (Finset.mem_univ w))
/-- and the set is among the held buffers. -/
theorem arr1_sub : Pipeline.arrRefs (τ := τ) spec1 ⊆ Pipeline.ucRefs τ sig := Pipeline.arrRefs_sub_ucRefs spec1 (by decide)
theorem at_main_v20_0 (m : (ℓ : Loc nD τ sig) → Buf (Elt F) ℓ) (outs : Outs (F := F)) (c : Dev nD) : V8 m outs c (Proc.devRef .tc main_v20_0) = outs 8 main_v20_0 c := by
  simp only [V8, Function.update_of_ne (StableHlo.devRef_ne_of_ne (show main_v20_0 ≠ main_v20_1 by decide) : (Proc.devRef .tc main_v20_0 : DevRef τ sig) ≠ Proc.devRef .tc main_v20_1), Function.update_of_ne (StableHlo.devRef_ne_of_ne (show main_v20_0 ≠ main_v20_2 by decide) : (Proc.devRef .tc main_v20_0 : DevRef τ sig) ≠ Proc.devRef .tc main_v20_2), Function.update_self]
theorem at_main_v20_1 (m : (ℓ : Loc nD τ sig) → Buf (Elt F) ℓ) (outs : Outs (F := F)) (c : Dev nD) : V8 m outs c (Proc.devRef .tc main_v20_1) = outs 8 main_v20_1 c := by
  simp only [V8, Function.update_of_ne (StableHlo.devRef_ne_of_ne (show main_v20_1 ≠ main_v20_2 by decide) : (Proc.devRef .tc main_v20_1 : DevRef τ sig) ≠ Proc.devRef .tc main_v20_2), Function.update_self]
theorem at_main_v20_2 (m : (ℓ : Loc nD τ sig) → Buf (Elt F) ℓ) (outs : Outs (F := F)) (c : Dev nD) : V8 m outs c (Proc.devRef .tc main_v20_2) = outs 8 main_v20_2 c := by
  simp only [V8,  Function.update_self]
/-- Off its arrays the edge region changes no buffer. -/
theorem off1 (m : (ℓ : Loc nD τ sig) → Buf (Elt F) ℓ) (outs : Outs (F := F)) (c : Dev nD) :
    ∀ b ∈ (Pipeline.ucRefs τ sig) \ Pipeline.arrRefs (τ := τ) spec1, V8 m outs c b = V7 m outs c b := fun b hb => by
  have hn : b ∉ Pipeline.arrRefs (τ := τ) spec1 := (Finset.mem_sdiff.mp hb).2
  have h13 : b ≠ Proc.devRef .tc main_v20_0 := by rintro rfl; exact hn (by first | exact arr1_mem 13 | decide)
  have h14 : b ≠ Proc.devRef .tc main_v20_1 := by rintro rfl; exact hn (by first | exact arr1_mem 14 | decide)
  have h15 : b ≠ Proc.devRef .tc main_v20_2 := by rintro rfl; exact hn (by first | exact arr1_mem 15 | decide)
  simp only [V8, Function.update_of_ne h13, Function.update_of_ne h14, Function.update_of_ne h15]

theorem exit1_0 (m : (ℓ : Loc nD τ sig) → Buf (Elt F) ℓ) (outs : Outs (F := F)) (h : Scat.RowsOk (Ve2 m outs)) (c : Dev nD) :
    (dEdge m outs c).arrAt 0 cfg1.N = V8 m outs c (Proc.devRef .tc (Pipeline.arrRef spec1 0)) :=
  ((dEdge m outs c).arrAt_in 0 rfl _).trans ((K1.A_eq (U := UR sig nD τ) (Lvl := ℕ) Variants.none (Ve1 m outs) 0 c 0).trans (V8_of m outs c (Pipeline.arrRef spec1 0) (by decide)).symm)
theorem exit1_1 (m : (ℓ : Loc nD τ sig) → Buf (Elt F) ℓ) (outs : Outs (F := F)) (h : Scat.RowsOk (Ve2 m outs)) (c : Dev nD) :
    (dEdge m outs c).arrAt 1 cfg1.N = V8 m outs c (Proc.devRef .tc (Pipeline.arrRef spec1 1)) :=
  ((dEdge m outs c).arrAt_in 1 rfl _).trans ((K1.A_eq (U := UR sig nD τ) (Lvl := ℕ) Variants.none (Ve1 m outs) 0 c 1).trans (V8_of m outs c (Pipeline.arrRef spec1 1) (by decide)).symm)
theorem exit1_2 (m : (ℓ : Loc nD τ sig) → Buf (Elt F) ℓ) (outs : Outs (F := F)) (h : Scat.RowsOk (Ve2 m outs)) (c : Dev nD) :
    (dEdge m outs c).arrAt 2 cfg1.N = V8 m outs c (Proc.devRef .tc (Pipeline.arrRef spec1 2)) :=
  ((dEdge m outs c).arrAt_in 2 rfl _).trans ((K1.A_eq (U := UR sig nD τ) (Lvl := ℕ) Variants.none (Ve1 m outs) 0 c 2).trans (V8_of m outs c (Pipeline.arrRef spec1 2) (by decide)).symm)
theorem exit1_3 (m : (ℓ : Loc nD τ sig) → Buf (Elt F) ℓ) (outs : Outs (F := F)) (h : Scat.RowsOk (Ve2 m outs)) (c : Dev nD) :
    (dEdge m outs c).arrAt 3 cfg1.N = V8 m outs c (Proc.devRef .tc (Pipeline.arrRef spec1 3)) :=
  ((dEdge m outs c).arrAt_in 3 rfl _).trans ((K1.A_eq (U := UR sig nD τ) (Lvl := ℕ) Variants.none (Ve1 m outs) 0 c 3).trans (V8_of m outs c (Pipeline.arrRef spec1 3) (by decide)).symm)
theorem exit1_4 (m : (ℓ : Loc nD τ sig) → Buf (Elt F) ℓ) (outs : Outs (F := F)) (h : Scat.RowsOk (Ve2 m outs)) (c : Dev nD) :
    (dEdge m outs c).arrAt 4 cfg1.N = V8 m outs c (Proc.devRef .tc (Pipeline.arrRef spec1 4)) :=
  ((dEdge m outs c).arrAt_in 4 rfl _).trans ((K1.A_eq (U := UR sig nD τ) (Lvl := ℕ) Variants.none (Ve1 m outs) 0 c 4).trans (V8_of m outs c (Pipeline.arrRef spec1 4) (by decide)).symm)
theorem exit1_5 (m : (ℓ : Loc nD τ sig) → Buf (Elt F) ℓ) (outs : Outs (F := F)) (h : Scat.RowsOk (Ve2 m outs)) (c : Dev nD) :
    (dEdge m outs c).arrAt 5 cfg1.N = V8 m outs c (Proc.devRef .tc (Pipeline.arrRef spec1 5)) :=
  ((dEdge m outs c).arrAt_in 5 rfl _).trans ((K1.A_eq (U := UR sig nD τ) (Lvl := ℕ) Variants.none (Ve1 m outs) 0 c 5).trans (V8_of m outs c (Pipeline.arrRef spec1 5) (by decide)).symm)
theorem exit1_6 (m : (ℓ : Loc nD τ sig) → Buf (Elt F) ℓ) (outs : Outs (F := F)) (h : Scat.RowsOk (Ve2 m outs)) (c : Dev nD) :
    (dEdge m outs c).arrAt 6 cfg1.N = V8 m outs c (Proc.devRef .tc (Pipeline.arrRef spec1 6)) :=
  ((dEdge m outs c).arrAt_in 6 rfl _).trans ((K1.A_eq (U := UR sig nD τ) (Lvl := ℕ) Variants.none (Ve1 m outs) 0 c 6).trans (V8_of m outs c (Pipeline.arrRef spec1 6) (by decide)).symm)
theorem exit1_7 (m : (ℓ : Loc nD τ sig) → Buf (Elt F) ℓ) (outs : Outs (F := F)) (h : Scat.RowsOk (Ve2 m outs)) (c : Dev nD) :
    (dEdge m outs c).arrAt 7 cfg1.N = V8 m outs c (Proc.devRef .tc (Pipeline.arrRef spec1 7)) :=
  ((dEdge m outs c).arrAt_in 7 rfl _).trans ((K1.A_eq (U := UR sig nD τ) (Lvl := ℕ) Variants.none (Ve1 m outs) 0 c 7).trans (V8_of m outs c (Pipeline.arrRef spec1 7) (by decide)).symm)
theorem exit1_8 (m : (ℓ : Loc nD τ sig) → Buf (Elt F) ℓ) (outs : Outs (F := F)) (h : Scat.RowsOk (Ve2 m outs)) (c : Dev nD) :
    (dEdge m outs c).arrAt 8 cfg1.N = V8 m outs c (Proc.devRef .tc (Pipeline.arrRef spec1 8)) :=
  ((dEdge m outs c).arrAt_in 8 rfl _).trans ((K1.A_eq (U := UR sig nD τ) (Lvl := ℕ) Variants.none (Ve1 m outs) 0 c 8).trans (V8_of m outs c (Pipeline.arrRef spec1 8) (by decide)).symm)
theorem exit1_9 (m : (ℓ : Loc nD τ sig) → Buf (Elt F) ℓ) (outs : Outs (F := F)) (h : Scat.RowsOk (Ve2 m outs)) (c : Dev nD) :
    (dEdge m outs c).arrAt 9 cfg1.N = V8 m outs c (Proc.devRef .tc (Pipeline.arrRef spec1 9)) :=
  ((dEdge m outs c).arrAt_in 9 rfl _).trans ((K1.A_eq (U := UR sig nD τ) (Lvl := ℕ) Variants.none (Ve1 m outs) 0 c 9).trans (V8_of m outs c (Pipeline.arrRef spec1 9) (by decide)).symm)
theorem exit1_10 (m : (ℓ : Loc nD τ sig) → Buf (Elt F) ℓ) (outs : Outs (F := F)) (h : Scat.RowsOk (Ve2 m outs)) (c : Dev nD) :
    (dEdge m outs c).arrAt 10 cfg1.N = V8 m outs c (Proc.devRef .tc (Pipeline.arrRef spec1 10)) :=
  ((dEdge m outs c).arrAt_in 10 rfl _).trans ((K1.A_eq (U := UR sig nD τ) (Lvl := ℕ) Variants.none (Ve1 m outs) 0 c 10).trans (V8_of m outs c (Pipeline.arrRef spec1 10) (by decide)).symm)
theorem exit1_11 (m : (ℓ : Loc nD τ sig) → Buf (Elt F) ℓ) (outs : Outs (F := F)) (h : Scat.RowsOk (Ve2 m outs)) (c : Dev nD) :
    (dEdge m outs c).arrAt 11 cfg1.N = V8 m outs c (Proc.devRef .tc (Pipeline.arrRef spec1 11)) :=
  ((dEdge m outs c).arrAt_in 11 rfl _).trans ((K1.A_eq (U := UR sig nD τ) (Lvl := ℕ) Variants.none (Ve1 m outs) 0 c 11).trans (V8_of m outs c (Pipeline.arrRef spec1 11) (by decide)).symm)
theorem exit1_12 (m : (ℓ : Loc nD τ sig) → Buf (Elt F) ℓ) (outs : Outs (F := F)) (h : Scat.RowsOk (Ve2 m outs)) (c : Dev nD) :
    (dEdge m outs c).arrAt 12 cfg1.N = V8 m outs c (Proc.devRef .tc (Pipeline.arrRef spec1 12)) :=
  ((dEdge m outs c).arrAt_in 12 rfl _).trans ((K1.A_eq (U := UR sig nD τ) (Lvl := ℕ) Variants.none (Ve1 m outs) 0 c 12).trans (V8_of m outs c (Pipeline.arrRef spec1 12) (by decide)).symm)
theorem exit1_13 (m : (ℓ : Loc nD τ sig) → Buf (Elt F) ℓ) (outs : Outs (F := F)) (h : Scat.RowsOk (Ve2 m outs)) (hout13 : ∀ c : Dev nD, outs 8 main_v20_0 c = (dEdge m outs c).arrAt 13 cfg1.N) (c : Dev nD) :
    (dEdge m outs c).arrAt 13 cfg1.N = V8 m outs c (Proc.devRef .tc (Pipeline.arrRef spec1 13)) :=
  (hout13 c).symm.trans (at_main_v20_0 m outs c).symm
theorem exit1_14 (m : (ℓ : Loc nD τ sig) → Buf (Elt F) ℓ) (outs : Outs (F := F)) (h : Scat.RowsOk (Ve2 m outs)) (hout14 : ∀ c : Dev nD, outs 8 main_v20_1 c = (dEdge m outs c).arrAt 14 cfg1.N) (c : Dev nD) :
    (dEdge m outs c).arrAt 14 cfg1.N = V8 m outs c (Proc.devRef .tc (Pipeline.arrRef spec1 14)) :=
  (hout14 c).symm.trans (at_main_v20_1 m outs c).symm
theorem exit1_15 (m : (ℓ : Loc nD τ sig) → Buf (Elt F) ℓ) (outs : Outs (F := F)) (h : Scat.RowsOk (Ve2 m outs)) (hout15 : ∀ c : Dev nD, outs 8 main_v20_2 c = (dEdge m outs c).arrAt 15 cfg1.N) (c : Dev nD) :
    (dEdge m outs c).arrAt 15 cfg1.N = V8 m outs c (Proc.devRef .tc (Pipeline.arrRef spec1 15)) :=
  (hout15 c).symm.trans (at_main_v20_2 m outs c).symm

/-- Every array's contents when the region ends. -/
theorem exit1 (m : (ℓ : Loc nD τ sig) → Buf (Elt F) ℓ) (outs : Outs (F := F)) (h : Scat.RowsOk (Ve2 m outs)) (hout13 : ∀ c : Dev nD, outs 8 main_v20_0 c = (dEdge m outs c).arrAt 13 cfg1.N) (hout14 : ∀ c : Dev nD, outs 8 main_v20_1 c = (dEdge m outs c).arrAt 14 cfg1.N) (hout15 : ∀ c : Dev nD, outs 8 main_v20_2 c = (dEdge m outs c).arrAt 15 cfg1.N) (c : Dev nD) : ∀ w : Fin cfg1.W,
    (dEdge m outs c).arrAt w cfg1.N = V8 m outs c (Proc.devRef .tc (Pipeline.arrRef spec1 w)) :=
  fun | 0 => exit1_0 m outs h c | 1 => exit1_1 m outs h c | 2 => exit1_2 m outs h c | 3 => exit1_3 m outs h c | 4 => exit1_4 m outs h c | 5 => exit1_5 m outs h c | 6 => exit1_6 m outs h c | 7 => exit1_7 m outs h c | 8 => exit1_8 m outs h c | 9 => exit1_9 m outs h c | 10 => exit1_10 m outs h c | 11 => exit1_11 m outs h c | 12 => exit1_12 m outs h c | 13 => exit1_13 m outs h hout13 c | 14 => exit1_14 m outs h hout14 c | 15 => exit1_15 m outs h hout15 c | ⟨_ + 16, h⟩ => absurd h (Nat.not_lt.2 (Nat.le_add_left _ _))

set_option backward.isDefEq.respectTransparency.types false in
/-- The edge region: its arrays held in and out, everything else riding. -/
def reg1 (m : (ℓ : Loc nD τ sig) → Buf (Elt F) ℓ) (outs : Outs (F := F)) (h : Scat.RowsOk (Ve2 m outs)) (hout13 : ∀ c : Dev nD, outs 8 main_v20_0 c = (dEdge m outs c).arrAt 13 cfg1.N) (hout14 : ∀ c : Dev nD, outs 8 main_v20_1 c = (dEdge m outs c).arrAt 14 cfg1.N) (hout15 : ∀ c : Dev nD, outs 8 main_v20_2 c = (dEdge m outs c).arrAt 15 cfg1.N) :
    RegionSeg (pcfgs (F := F)) adm (pd m outs h) () defs₀ Variants.none Lv lvl 1 :=
  Pipeline.RegionSeg.ofHeld (pcfgs (F := F)) adm (pd m outs h) () defs₀ Variants.none Lv lvl 1 0
    (fun c => iprop(∃ r, prngReg c r)) (fun c => iprop(∃ r, prngReg c r)) launch1.toP rfl
    (fun c => (K1.body_obligation (U := UR sig nD τ) (Lvl := ℕ) Variants.none (Ve1 m outs) 0 () c).loose) (fun _ _ => rfl) (fun _ => rfl)
    (fun c => ((pd m outs h) 1 c).share_full fun _ => rfl) (fun c => .rfl) (fun c => .rfl) (fun _ => 0) (cut 1)
    (fun c => iprop(StableHlo.held (c : Thread nD τ) ((Pipeline.ucRefs τ sig) \ Pipeline.arrRefs (τ := τ) spec1) (V7 m outs c) ∗ emp))
    (V7 m outs) (V8 m outs) (fun _ _ => rfl) (fun c w => exit1 m outs h hout13 hout14 hout15 c w)

theorem pre1 (m : (ℓ : Loc nD τ sig) → Buf (Elt F) ℓ) (outs : Outs (F := F)) (h : Scat.RowsOk (Ve2 m outs)) (hout13 : ∀ c : Dev nD, outs 8 main_v20_0 c = (dEdge m outs c).arrAt 13 cfg1.N) (hout14 : ∀ c : Dev nD, outs 8 main_v20_1 c = (dEdge m outs c).arrAt 14 cfg1.N) (hout15 : ∀ c : Dev nD, outs 8 main_v20_2 c = (dEdge m outs c).arrAt 15 cfg1.N) (c : Dev nD) :
    iprop(StableHlo.held (c : Thread nD τ) (Pipeline.ucRefs τ sig) (V7 m outs c) ∗ rest c) ⊢ (reg1 m outs h hout13 hout14 hout15).pre c := by
  show _ ⊢ iprop(StableHlo.held (c : Thread nD τ) (Pipeline.arrRefs (τ := τ) spec1) (V7 m outs c) ∗ (∃ r, prngReg c r)
    ∗ (StableHlo.held (c : Thread nD τ) ((Pipeline.ucRefs τ sig) \ Pipeline.arrRefs (τ := τ) spec1) (V7 m outs c) ∗ emp)
    ∗ ∃ W, owes (c : Thread nD τ) ((0 : Dev nD → CellTallies nD τ sig Unit) c) W)
  rw [StableHlo.held_sub_split (c : Thread nD τ) arr1_sub (V7 m outs c)]
  iintro ⟨⟨Ha, Hr⟩, Hp, HO⟩
  isplitl [Ha]; · iexact Ha
  isplitl [Hp]; · iexact Hp
  isplitl [Hr]
  · isplitl [Hr]; · iexact Hr
    iempintro
  iexact HO

theorem post1 (m : (ℓ : Loc nD τ sig) → Buf (Elt F) ℓ) (outs : Outs (F := F)) (h : Scat.RowsOk (Ve2 m outs)) (hout13 : ∀ c : Dev nD, outs 8 main_v20_0 c = (dEdge m outs c).arrAt 13 cfg1.N) (hout14 : ∀ c : Dev nD, outs 8 main_v20_1 c = (dEdge m outs c).arrAt 14 cfg1.N) (hout15 : ∀ c : Dev nD, outs 8 main_v20_2 c = (dEdge m outs c).arrAt 15 cfg1.N) (c : Dev nD) :
    (reg1 m outs h hout13 hout14 hout15).post c ⊢ iprop(StableHlo.held (c : Thread nD τ) (Pipeline.ucRefs τ sig) (V8 m outs c) ∗ rest c) := by
  show iprop(StableHlo.held (c : Thread nD τ) (Pipeline.arrRefs (τ := τ) spec1) (V8 m outs c) ∗ (∃ r, prngReg c r)
    ∗ (StableHlo.held (c : Thread nD τ) ((Pipeline.ucRefs τ sig) \ Pipeline.arrRefs (τ := τ) spec1) (V7 m outs c) ∗ emp)
    ∗ ∃ W, owes (c : Thread nD τ) ((0 : Dev nD → CellTallies nD τ sig Unit) c) W) ⊢ _
  rw [StableHlo.held_sub_split (c : Thread nD τ) arr1_sub (V8 m outs c),
    StableHlo.held_congr (c : Thread nD τ) (S := (Pipeline.ucRefs τ sig) \ Pipeline.arrRefs (τ := τ) spec1) (off1 m outs c)]
  iintro ⟨Ha, Hp, ⟨Hr, -⟩, HO⟩
  isplitl [Ha Hr]; · isplitl [Ha] <;> iassumption
  isplitl [Hp]; · iexact Hp
  iexact HO

/-- Each window's array of the scatter region is in the region's array set, -/
theorem arr2_mem (w : Fin cfg2.W) : (Proc.devRef .tc (Pipeline.arrRef spec2 w) : DevRef τ sig) ∈ Pipeline.arrRefs (τ := τ) spec2 :=
  Finset.mem_map_of_mem _ (Finset.mem_image_of_mem _ (Finset.mem_univ w))
/-- and the set is among the held buffers. -/
theorem arr2_sub : Pipeline.arrRefs (τ := τ) spec2 ⊆ Pipeline.ucRefs τ sig := Pipeline.arrRefs_sub_ucRefs spec2 (by decide)
theorem at_main_v24 (m : (ℓ : Loc nD τ sig) → Buf (Elt F) ℓ) (outs : Outs (F := F)) (c : Dev nD) : V10 m outs c (Proc.devRef .tc main_v24) = outs 10 main_v24 c := by
  simp only [V10,  Function.update_self]
/-- Off its arrays the scatter region changes no buffer. -/
theorem off2 (m : (ℓ : Loc nD τ sig) → Buf (Elt F) ℓ) (outs : Outs (F := F)) (c : Dev nD) :
    ∀ b ∈ (Pipeline.ucRefs τ sig) \ Pipeline.arrRefs (τ := τ) spec2, V10 m outs c b = V9 m outs c b := fun b hb => by
  have hn : b ∉ Pipeline.arrRefs (τ := τ) spec2 := (Finset.mem_sdiff.mp hb).2
  have h4 : b ≠ Proc.devRef .tc main_v24 := by rintro rfl; exact hn (by first | exact arr2_mem 4 | decide)
  simp only [V10, Function.update_of_ne h4]

theorem exit2_0 (m : (ℓ : Loc nD τ sig) → Buf (Elt F) ℓ) (outs : Outs (F := F)) (h : Scat.RowsOk (Ve2 m outs)) (c : Dev nD) :
    (Scat.datS (Ve2 m outs) h c).arrAt 0 cfg2.N = V10 m outs c (Proc.devRef .tc (Pipeline.arrRef spec2 0)) :=
  ((Scat.datS (Ve2 m outs) h c).arrAt_in 0 rfl _).trans ((Scat.A_eq (Ve2 m outs) h c 0).trans (V10_of m outs c (Pipeline.arrRef spec2 0) (by decide)).symm)
theorem exit2_1 (m : (ℓ : Loc nD τ sig) → Buf (Elt F) ℓ) (outs : Outs (F := F)) (h : Scat.RowsOk (Ve2 m outs)) (c : Dev nD) :
    (Scat.datS (Ve2 m outs) h c).arrAt 1 cfg2.N = V10 m outs c (Proc.devRef .tc (Pipeline.arrRef spec2 1)) :=
  ((Scat.datS (Ve2 m outs) h c).arrAt_in 1 rfl _).trans ((Scat.A_eq (Ve2 m outs) h c 1).trans (V10_of m outs c (Pipeline.arrRef spec2 1) (by decide)).symm)
theorem exit2_2 (m : (ℓ : Loc nD τ sig) → Buf (Elt F) ℓ) (outs : Outs (F := F)) (h : Scat.RowsOk (Ve2 m outs)) (c : Dev nD) :
    (Scat.datS (Ve2 m outs) h c).arrAt 2 cfg2.N = V10 m outs c (Proc.devRef .tc (Pipeline.arrRef spec2 2)) :=
  ((Scat.datS (Ve2 m outs) h c).arrAt_in 2 rfl _).trans ((Scat.A_eq (Ve2 m outs) h c 2).trans (V10_of m outs c (Pipeline.arrRef spec2 2) (by decide)).symm)
theorem exit2_3 (m : (ℓ : Loc nD τ sig) → Buf (Elt F) ℓ) (outs : Outs (F := F)) (h : Scat.RowsOk (Ve2 m outs)) (c : Dev nD) :
    (Scat.datS (Ve2 m outs) h c).arrAt 3 cfg2.N = V10 m outs c (Proc.devRef .tc (Pipeline.arrRef spec2 3)) :=
  ((Scat.datS (Ve2 m outs) h c).arrAt_in 3 rfl _).trans ((Scat.A_eq (Ve2 m outs) h c 3).trans (V10_of m outs c (Pipeline.arrRef spec2 3) (by decide)).symm)
theorem exit2_4 (m : (ℓ : Loc nD τ sig) → Buf (Elt F) ℓ) (outs : Outs (F := F)) (h : Scat.RowsOk (Ve2 m outs)) (hout4 : ∀ c : Dev nD, outs 10 main_v24 c = (Scat.datS (Ve2 m outs) h c).arrAt 4 cfg2.N) (c : Dev nD) :
    (Scat.datS (Ve2 m outs) h c).arrAt 4 cfg2.N = V10 m outs c (Proc.devRef .tc (Pipeline.arrRef spec2 4)) :=
  (hout4 c).symm.trans (at_main_v24 m outs c).symm

/-- Every array's contents when the region ends. -/
theorem exit2 (m : (ℓ : Loc nD τ sig) → Buf (Elt F) ℓ) (outs : Outs (F := F)) (h : Scat.RowsOk (Ve2 m outs)) (hout4 : ∀ c : Dev nD, outs 10 main_v24 c = (Scat.datS (Ve2 m outs) h c).arrAt 4 cfg2.N) (c : Dev nD) : ∀ w : Fin cfg2.W,
    (Scat.datS (Ve2 m outs) h c).arrAt w cfg2.N = V10 m outs c (Proc.devRef .tc (Pipeline.arrRef spec2 w)) :=
  fun | 0 => exit2_0 m outs h c | 1 => exit2_1 m outs h c | 2 => exit2_2 m outs h c | 3 => exit2_3 m outs h c | 4 => exit2_4 m outs h hout4 c | ⟨_ + 5, h⟩ => absurd h (Nat.not_lt.2 (Nat.le_add_left _ _))

set_option backward.isDefEq.respectTransparency.types false in
/-- The scatter region: its arrays held in and out, everything else riding. -/
def reg2 (m : (ℓ : Loc nD τ sig) → Buf (Elt F) ℓ) (outs : Outs (F := F)) (h : Scat.RowsOk (Ve2 m outs)) (hout4 : ∀ c : Dev nD, outs 10 main_v24 c = (Scat.datS (Ve2 m outs) h c).arrAt 4 cfg2.N) :
    RegionSeg (pcfgs (F := F)) adm (pd m outs h) () defs₀ Variants.none Lv lvl 2 :=
  Pipeline.RegionSeg.ofHeld (pcfgs (F := F)) adm (pd m outs h) () defs₀ Variants.none Lv lvl 2 0
    (fun c => iprop(∃ r, prngReg c r)) (fun c => iprop(∃ r, prngReg c r)) launch2.toP rfl
    (fun c => (Scat.body_obligation (Ve2 m outs) h c).loose) (fun _ _ => rfl) (fun _ => rfl)
    (fun c => ((pd m outs h) 2 c).share_full fun _ => rfl) (fun c => Scat.enter (Ve2 m outs) h c) (fun c => Scat.leave (Ve2 m outs) h c) (fun _ => 0) (cut 2)
    (fun c => iprop(StableHlo.held (c : Thread nD τ) ((Pipeline.ucRefs τ sig) \ Pipeline.arrRefs (τ := τ) spec2) (V9 m outs c) ∗ emp))
    (V9 m outs) (V10 m outs) (fun _ _ => rfl) (fun c w => exit2 m outs h hout4 c w)

theorem pre2 (m : (ℓ : Loc nD τ sig) → Buf (Elt F) ℓ) (outs : Outs (F := F)) (h : Scat.RowsOk (Ve2 m outs)) (hout4 : ∀ c : Dev nD, outs 10 main_v24 c = (Scat.datS (Ve2 m outs) h c).arrAt 4 cfg2.N) (c : Dev nD) :
    iprop(StableHlo.held (c : Thread nD τ) (Pipeline.ucRefs τ sig) (V9 m outs c) ∗ rest c) ⊢ (reg2 m outs h hout4).pre c := by
  show _ ⊢ iprop(StableHlo.held (c : Thread nD τ) (Pipeline.arrRefs (τ := τ) spec2) (V9 m outs c) ∗ (∃ r, prngReg c r)
    ∗ (StableHlo.held (c : Thread nD τ) ((Pipeline.ucRefs τ sig) \ Pipeline.arrRefs (τ := τ) spec2) (V9 m outs c) ∗ emp)
    ∗ ∃ W, owes (c : Thread nD τ) ((0 : Dev nD → CellTallies nD τ sig Unit) c) W)
  rw [StableHlo.held_sub_split (c : Thread nD τ) arr2_sub (V9 m outs c)]
  iintro ⟨⟨Ha, Hr⟩, Hp, HO⟩
  isplitl [Ha]; · iexact Ha
  isplitl [Hp]; · iexact Hp
  isplitl [Hr]
  · isplitl [Hr]; · iexact Hr
    iempintro
  iexact HO

theorem post2 (m : (ℓ : Loc nD τ sig) → Buf (Elt F) ℓ) (outs : Outs (F := F)) (h : Scat.RowsOk (Ve2 m outs)) (hout4 : ∀ c : Dev nD, outs 10 main_v24 c = (Scat.datS (Ve2 m outs) h c).arrAt 4 cfg2.N) (c : Dev nD) :
    (reg2 m outs h hout4).post c ⊢ iprop(StableHlo.held (c : Thread nD τ) (Pipeline.ucRefs τ sig) (V10 m outs c) ∗ rest c) := by
  show iprop(StableHlo.held (c : Thread nD τ) (Pipeline.arrRefs (τ := τ) spec2) (V10 m outs c) ∗ (∃ r, prngReg c r)
    ∗ (StableHlo.held (c : Thread nD τ) ((Pipeline.ucRefs τ sig) \ Pipeline.arrRefs (τ := τ) spec2) (V9 m outs c) ∗ emp)
    ∗ ∃ W, owes (c : Thread nD τ) ((0 : Dev nD → CellTallies nD τ sig Unit) c) W) ⊢ _
  rw [StableHlo.held_sub_split (c : Thread nD τ) arr2_sub (V10 m outs c),
    StableHlo.held_congr (c : Thread nD τ) (S := (Pipeline.ucRefs τ sig) \ Pipeline.arrRefs (τ := τ) spec2) (off2 m outs c)]
  iintro ⟨Ha, Hp, ⟨Hr, -⟩, HO⟩
  isplitl [Ha Hr]; · isplitl [Ha] <;> iassumption
  isplitl [Hp]; · iexact Hp
  iexact HO

/-! ## The run -/

set_option backward.isDefEq.respectTransparency.types false in
/-- Every execution of the program ends with every buffer as the chain of contents says and every semaphore at zero. -/
theorem run_contents (m : (ℓ : Loc nD τ sig) → Buf (Elt F) ℓ) (ρ : Dev nD → PrngReg) (h : DstOk m) :
    θ_run defs (onTc (τ := τ) (main (F := F))) ⟨m, fun _ => 0, ρ⟩
      (fun r => (∀ c : Dev nD, ∀ b ∈ Pipeline.ucRefs τ sig, r.2.mem ((c.tc : Thread nD τ).1, b) = V11 m (outsC m h) c b) ∧ r.2.sem = fun _ => 0) := by
  have hC := dstOk_C m h
  have h0 : ∀ c, outsC m h 2 main_v4 c = (dNode m c).arrAt 2 cfg0.N := fun c =>
    (outsC_of_ne m h 2 main_v4 (by decide) c).trans ((outsB_node m 2 c).trans (outsA_node m 2 c))
  have e1 : ∀ c, dEdge m (outsC m h) c = dEdge m (outsA m) c := fun c => by rw [dEdge, Ve1_C m h]
  have h13 : ∀ c, outsC m h 8 main_v20_0 c = (dEdge m (outsC m h) c).arrAt 13 cfg1.N := fun c =>
    (outsC_of_ne m h 8 main_v20_0 (by decide) c).trans ((outsB_logits m 8 c).trans (by rw [e1 c]))
  have h14 : ∀ c, outsC m h 8 main_v20_1 c = (dEdge m (outsC m h) c).arrAt 14 cfg1.N := fun c =>
    (outsC_of_ne m h 8 main_v20_1 (by decide) c).trans ((outsB_values m 8 c).trans (by rw [e1 c]))
  have h15 : ∀ c, outsC m h 8 main_v20_2 c = (dEdge m (outsC m h) c).arrAt 15 cfg1.N := fun c =>
    (outsC_of_ne m h 8 main_v20_2 (by decide) c).trans ((outsB_max m 8 c).trans (by rw [e1 c]))
  have h4 : ∀ c, outsC m h 10 main_v24 c = (Scat.datS (Ve2 m (outsC m h)) hC c).arrAt 4 cfg2.N := fun c =>
    (outsC_out m h 10 c).trans (by rw [datS_congr (Ve2_C m h) hC h c])
  let E : Fin 4 → Dev nD → sProp 𝕄 := fun _ c => rest c
  let R0 := reg0 m (outsC m h) hC h0
  let R1 := reg1 m (outsC m h) hC h13 h14 h15
  let R2 := reg2 m (outsC m h) hC h4
  refine Pipeline.θ_run_regions_kit_dev_sems (pcfgs (F := F)) adm (pd m (outsC m h) hC) () cellOf_inj emb₁ defs₀ Variants.none Lv lvl m ρ main
    (segs m (outsC m h) Variants.none Lv lvl E () (pd m (outsC m h) hC) R0 R1 R2)
    (fun c Q => by
      rewrite [main_chain c, Seg.run_eq_chain,
        show (segs m (outsC m h) Variants.none Lv lvl E () (pd m (outsC m h) hC) R0 R1 R2 c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2,
          Prog.lift (.customCall (Pipeline.entry 2) ()),
          StableHlo.seq hostOps3 ] from rfl]
      dsimp (config := { failIfUnchanged := false }) only
      exact .rfl)
    (fun c => by simp only [segs, Seg.pipes_host, Seg.pipes_region, Seg.pipes_nil]; decide)
    (0 : Dev nD → CellTallies nD τ sig Unit) (fun g hg => if_neg hg) (fun _ => iprop(emp))
    (initOf (Pipeline.cells cfgs cellOf_inj) (Pipeline.launchToks cfgs cellOf_inj))
    (by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rest c))
    (Tₙ := fun c => StableHlo.held (c : Thread nD τ) (Pipeline.ucRefs τ sig) (V11 m (outsC m h) c))
    (hch := fun c => ⟨.rfl,
      pre0 m (outsC m h) hC h0 c, post0 m (outsC m h) hC h0 c,
      .rfl, .rfl, .rfl, .rfl,
      pre1 m (outsC m h) hC h13 h14 h15 c, post1 m (outsC m h) hC h13 h14 h15 c,
      pre2 m (outsC m h) hC h4 c, post2 m (outsC m h) hC h4 c,
      sep_mono .rfl (show rest c ⊢ _ from by iintro ⟨-, HO⟩; iexact HO)⟩)
    (hinit := ?_) (QY := fun c s => ∀ b ∈ Pipeline.ucRefs τ sig, s.mem ((c.tc : Thread nD τ).1, b) = V11 m (outsC m h) c b)
    (hfin := fun c s' => ?_) (hQ := fun _ h hz => ⟨h, funext fun g => hz g (.inr (regions_no_unscoped g.2))⟩)
  · refine Pipeline.initEach Lv lvl fun c => ?_
    rw [show unscopedBufs c (fun b => m ((c.tc : Thread nD τ).loc b)) = StableHlo.held (c.tc : Thread nD τ) (Pipeline.ucRefs τ sig) (V0 m c)
        from Pipeline.unscopedBufs_held (Ix := Unit) (Name := ℕ) (U := UR sig nD τ) (Lvl := ℕ) c (V0 m c)]
    iintro ⟨⟨Hh, -, HO, -, Hp, -⟩, -⟩
    imodintro
    isplitl [Hh]; · iexact Hh
    isplitl [Hp]
    · iexists _; iexact Hp
    iexists _; iexact HO
  · unfold StableHlo.held
    iintro ⟨Hh, HSI⟩
    ihave Hr := (pointsTo_read_all (Pipeline.ucRefs τ sig) (fun b => ((c : Thread nD τ).1, b)) (V11 m (outsC m h) c) s') $$ [Hh HSI]
    · isplitl [Hh] <;> iassumption
    imodintro
    iexact Hr

/-- The run keeps every argument and leaves the result of the chain of contents. -/
theorem run_args (m : (ℓ : Loc nD τ sig) → Buf (Elt F) ℓ) (ρ : Dev nD → PrngReg) (h : DstOk m) :
    θ_run defs (onTc (τ := τ) (main (F := F))) ⟨m, fun _ => 0, ρ⟩ (fun r => (∀ c : Dev nD,
      r.2.mem ((c.tc : Thread nD τ).loc main_v25) = V11 m (outsC m h) c (Proc.devRef .tc main_v25)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) := by
  refine (θ_run defs _ _).mono ?_ (run_contents m ρ h)
  rintro r ⟨hr, hs⟩
  exact ⟨fun c => ⟨hr c (Proc.devRef .tc main_v25) (Finset.mem_filter.mpr ⟨StableHlo.devRef_mem_tcRefs main_v25, by decide⟩),
    (hr c (Proc.devRef .tc main_arg0) (Finset.mem_filter.mpr ⟨StableHlo.devRef_mem_tcRefs main_arg0, by decide⟩)).trans (V11_main_arg0 m (outsC m h) c),
    (hr c (Proc.devRef .tc main_arg1) (Finset.mem_filter.mpr ⟨StableHlo.devRef_mem_tcRefs main_arg1, by decide⟩)).trans (V11_main_arg1 m (outsC m h) c),
    (hr c (Proc.devRef .tc main_arg2) (Finset.mem_filter.mpr ⟨StableHlo.devRef_mem_tcRefs main_arg2, by decide⟩)).trans (V11_main_arg2 m (outsC m h) c),
    (hr c (Proc.devRef .tc main_arg3) (Finset.mem_filter.mpr ⟨StableHlo.devRef_mem_tcRefs main_arg3, by decide⟩)).trans (V11_main_arg3 m (outsC m h) c),
    (hr c (Proc.devRef .tc main_arg4) (Finset.mem_filter.mpr ⟨StableHlo.devRef_mem_tcRefs main_arg4, by decide⟩)).trans (V11_main_arg4 m (outsC m h) c),
    (hr c (Proc.devRef .tc main_arg5) (Finset.mem_filter.mpr ⟨StableHlo.devRef_mem_tcRefs main_arg5, by decide⟩)).trans (V11_main_arg5 m (outsC m h) c),
    (hr c (Proc.devRef .tc main_arg6) (Finset.mem_filter.mpr ⟨StableHlo.devRef_mem_tcRefs main_arg6, by decide⟩)).trans (V11_main_arg6 m (outsC m h) c),
    (hr c (Proc.devRef .tc main_arg7) (Finset.mem_filter.mpr ⟨StableHlo.devRef_mem_tcRefs main_arg7, by decide⟩)).trans (V11_main_arg7 m (outsC m h) c),
    (hr c (Proc.devRef .tc main_arg8) (Finset.mem_filter.mpr ⟨StableHlo.devRef_mem_tcRefs main_arg8, by decide⟩)).trans (V11_main_arg8 m (outsC m h) c),
    (hr c (Proc.devRef .tc main_arg9) (Finset.mem_filter.mpr ⟨StableHlo.devRef_mem_tcRefs main_arg9, by decide⟩)).trans (V11_main_arg9 m (outsC m h) c)⟩, hs⟩

end Cert.KernelIdeal.Whole

end
-- ==== Proof.KernelIdeal.InRange.lean ====
/- The destination words that the scatter call reads are entries of the edge list; when those name nodes, every
   dynamic row access is inside the accumulator. -/
module

public import proofs.«01_k».proof.Proof.KernelIdeal.Whole
public import Idealize.ShloMosaic.Lib.ReduceAll

@[expose] public section

set_option maxRecDepth 3240

noncomputable section

namespace Cert.KernelIdeal.Whole

open Cert.KernelIdeal Cert.KernelIdeal.Gen
open Idealize.ShloMosaic Idealize.ShloMosaic.TcCoe
open Idealize.SL Idealize.SL.Sem

variable {F : FTy → Type} [FloatOps F]

/-- The edge list of memory `m` on core `c`, as words. -/
abbrev edges (m : (ℓ : Loc nD τ sig) → Buf (Elt F) ℓ) (c : Dev nD) : S2x160000.Idx → BitVec 32 := m ((c.tc : Thread nD τ).loc main_arg2)

/-- Every entry of the edge list names a node. -/
def EdgesOk (m : (ℓ : Loc nD τ sig) → Buf (Elt F) ℓ) : Prop := ∀ (c : Dev nD) (j : S2x160000.Idx), (edges m c j).toNat < 10000

theorem rowOk1_of_lt {arg1 : Memref sig .tc .smem S1x1x2000 .i32} {harg1 : arg1.IsWhole} {x0 : Vec F S1x1x2000 .i32}
    (h : ∀ j, BitVec.toNat (w := 32) (x0 j) < 10000) : Scat.RowOk1 arg1 harg1 x0 := by
  intro kq hkq
  rw [View.readAt_apply, harg1.read_unread]
  have hw := h ((Rect.unit (s := S1x1x2000) (k2_off1 ⟨kq, hkq⟩) S1x1x1.size (k2_off1_inb ⟨kq, hkq⟩)).toLoadRect.idx (Shape.Idx.first (numel1_S1x1x1.symm ▸ Nat.one_pos)))
  generalize x0 _ = w at hw ⊢
  unfold k2_chk1 k2_off2
  intro a
  have hw' : (Scalar.indexCast w : BitVec 32).toNat < 10000 := hw
  fin_cases a
  · show 0 + 1 ≤ 4; omega
  · show (Scalar.indexCast w : BitVec 32).toNat + 1 ≤ 10000; omega
  · show 0 + 64 ≤ 64; omega

theorem rowOk2_of_lt {arg1 : Memref sig .tc .smem S1x1x2000 .i32} {harg1 : arg1.IsWhole} {x0 : Vec F S1x1x2000 .i32}
    (h : ∀ j, BitVec.toNat (w := 32) (x0 j) < 10000) : Scat.RowOk2 arg1 harg1 x0 := by
  intro kq hkq
  rw [View.readAt_apply, harg1.read_unread]
  have hw := h ((Rect.unit (s := S1x1x2000) (k2_off4 ⟨kq, hkq⟩) S1x1x1.size (k2_off4_inb ⟨kq, hkq⟩)).toLoadRect.idx (Shape.Idx.first (numel1_S1x1x1.symm ▸ Nat.one_pos)))
  generalize x0 _ = w at hw ⊢
  unfold k2_chk2 k2_off5
  intro a
  have hw' : (Scalar.indexCast w : BitVec 32).toNat < 10000 := hw
  fin_cases a
  · show 1 + 1 ≤ 4; omega
  · show (Scalar.indexCast w : BitVec 32).toNat + 1 ≤ 10000; omega
  · show 0 + 64 ≤ 64; omega

theorem rowOk3_of_lt {arg1 : Memref sig .tc .smem S1x1x2000 .i32} {harg1 : arg1.IsWhole} {x0 : Vec F S1x1x2000 .i32}
    (h : ∀ j, BitVec.toNat (w := 32) (x0 j) < 10000) : Scat.RowOk3 arg1 harg1 x0 := by
  intro kq hkq
  rw [View.readAt_apply, harg1.read_unread]
  have hw := h ((Rect.unit (s := S1x1x2000) (k2_off7 ⟨kq, hkq⟩) S1x1x1.size (k2_off7_inb ⟨kq, hkq⟩)).toLoadRect.idx (Shape.Idx.first (numel1_S1x1x1.symm ▸ Nat.one_pos)))
  generalize x0 _ = w at hw ⊢
  unfold k2_chk3 k2_off8
  intro a
  have hw' : (Scalar.indexCast w : BitVec 32).toNat < 10000 := hw
  fin_cases a
  · show 2 + 1 ≤ 4; omega
  · show (Scalar.indexCast w : BitVec 32).toNat + 1 ≤ 10000; omega
  · show 0 + 64 ≤ 64; omega

theorem rowOk4_of_lt {arg1 : Memref sig .tc .smem S1x1x2000 .i32} {harg1 : arg1.IsWhole} {x0 : Vec F S1x1x2000 .i32}
    (h : ∀ j, BitVec.toNat (w := 32) (x0 j) < 10000) : Scat.RowOk4 arg1 harg1 x0 := by
  intro kq hkq
  rw [View.readAt_apply, harg1.read_unread]
  have hw := h ((Rect.unit (s := S1x1x2000) (k2_off10 ⟨kq, hkq⟩) S1x1x1.size (k2_off10_inb ⟨kq, hkq⟩)).toLoadRect.idx (Shape.Idx.first (numel1_S1x1x1.symm ▸ Nat.one_pos)))
  generalize x0 _ = w at hw ⊢
  unfold k2_chk4 k2_off11
  intro a
  have hw' : (Scalar.indexCast w : BitVec 32).toNat < 10000 := hw
  fin_cases a
  · show 3 + 1 ≤ 4; omega
  · show (Scalar.indexCast w : BitVec 32).toNat + 1 ≤ 10000; omega
  · show 0 + 64 ≤ 64; omega

/-- The scatter call's table of destinations is the second row of the edge list. -/
theorem dst_entry (m : (ℓ : Loc nD τ sig) → Buf (Elt F) ℓ) (outs : Outs (F := F)) (c : Dev nD) (x : S80x1x2000.Idx) :
    ∃ j : S2x160000.Idx, (V9 m outs c (Proc.devRef .tc main_v23) : S80x1x2000.Idx → BitVec 32) x = edges m c j := by
  have e3 : V8 m outs c (Proc.devRef .tc main_v3) = V1 m c (Proc.devRef .tc main_v3) := by
    rw [V8_of m outs c main_v3 (by decide), V7_of m outs c main_v3 (by decide), V6_of m outs c main_v3 (by decide), V5_of m outs c main_v3 (by decide),
      V4_of m outs c main_v3 (by decide), V3_of m outs c main_v3 (by decide), V2_of m outs c main_v3 (by decide)]
  have e23 : V9 m outs c (Proc.devRef .tc main_v23) = shapeCast S80x1x2000 (V8 m outs c (Proc.devRef .tc main_v3)) shapeCasts_S160000_S80x1x2000 := rfl
  have e1 : V1 m c (Proc.devRef .tc main_v3) = shapeCast S160000 (extractStridedSlice S1x160000 ![1, 0] (edges m c) slices_S2x160000_S1x160000_1_0) shapeCasts_S1x160000_S160000 := rfl
  rw [e23, e3, e1]
  exact ⟨_, rfl⟩

/-- So every dynamic row access of the scatter call is inside the accumulator. -/
theorem dstOk_of_edges (m : (ℓ : Loc nD τ sig) → Buf (Elt F) ℓ) (h : EdgesOk m) : DstOk m := by
  intro c t
  have hx : ∀ j, BitVec.toNat (w := 32) (Scat.blockAt (Ve2 m (outsB m)) c 0 t j) < 10000 := by
    intro j
    have : ∃ x : S80x1x2000.Idx, Scat.blockAt (Ve2 m (outsB m)) c 0 t j = (V9 m (outsB m) c (Proc.devRef .tc main_v23) : S80x1x2000.Idx → BitVec 32) x := ⟨_, rfl⟩
    obtain ⟨x, hx⟩ := this
    obtain ⟨j', hj'⟩ := dst_entry m (outsB m) c x
    rw [hx, hj']; exact h c j'
  exact ⟨rowOk1_of_lt hx, rowOk2_of_lt hx, rowOk3_of_lt hx, rowOk4_of_lt hx⟩

end Cert.KernelIdeal.Whole

end
-- ==== Proof.Range.lean ====
/- What the stated precondition says of the edge list: every entry names a node. -/
module

public import proofs.«01_k».proof.Defs
public import proofs.«01_k».proof.Proof.Gen.Pre_in_range
public import Idealize.ShloMosaic.Lib.ReduceAll

@[expose] public section

noncomputable section

namespace Cert.Range

open Cert.Pre_in_range
open Idealize.ShloMosaic

/-- A word that is signed-at-least zero and signed-below ten thousand is, unsigned, below ten thousand. -/
theorem lt_of_signed (w : BitVec 32) (h0 : (0#32 : BitVec 32).toInt ≤ w.toInt) (h1 : w.toInt < (10000#32 : BitVec 32).toInt) :
    w.toNat < 10000 := by
  have e0 : (0#32 : BitVec 32).toInt = 0 := by decide
  have e1 : (10000#32 : BitVec 32).toInt = 10000 := by decide
  rw [e0] at h0; rw [e1] at h1
  have := BitVec.toInt_eq_toNat_cond w
  have := w.isLt
  split at * <;> omega

/-- The predicate being one bounds every entry of its index argument. -/
theorem entry_lt {F : FTy → Type} [FloatOps F] [Cert.Pre_in_range.Facts] (a0 : FVec F S10000x128 .f32) (a1 : FVec F S10000x3 .f32)
    (a2 : IVec S2x160000 32) (a3 : FVec F S128x32 .f32) (a4 a5 a6 : FVec F S32x16 .f32) (a7 : FVec F S16x2048 .f32)
    (a8 : FVec F S32x16 .f32) (a9 : FVec F S16x3584 .f32)
    (h : Cert.Pre_in_range.fn a0 a1 a2 a3 a4 a5 a6 a7 a8 a9 = fun _ => 1#1) (j : S2x160000.Idx) : (a2 j).toNat < 10000 := by
  have hs : Subsingleton S_.Idx := ⟨fun a b => funext fun d => d.elim0⟩
  have hj := Host.reduce_andi_all _ _ _ _ (Shape.Idx.first Facts.h_S_) (congrFun h (Shape.Idx.first Facts.h_S_)) j
  obtain ⟨hge, hlt⟩ := IntOp.andi_eq_one.1 hj
  exact lt_of_signed (a2 j) (IntOp.cmpi_sge.1 hge) (IntOp.cmpi_slt.1 hlt)

end Cert.Range

end
-- ==== Proof.Edge.lean ====
/- One edge of the network, over the extended reals: its logit and its sixty values, as functions of the edge vector
   `p`, the source row `xs`, the query row `qd` and the weights. Nothing here is about a program. -/
module

public import Idealize.ShloMosaic.PureOps.Ideal
public import Idealize.ShloMosaic.Lib.Pointwise

@[expose] public section

noncomputable section

namespace Cert.Edge

open Idealize.ShloMosaic

/-- The value of a single-precision word. -/
abbrev lit (b : BitVec 32) : EReal := Ideal.ofBits .f32 b

/-- The length of the edge vector. -/
def dist (p : Fin 3 → EReal) : EReal := Ideal.sqrt (∑ a, p a * p a)

/-- The edge vector over its length (the length moved away from zero). -/
def dir (p : Fin 3 → EReal) (a : Fin 3) : EReal := Ideal.div (p a) (dist p + lit 0x3089705F#32)

/-- The first three harmonics: the direction times the root of three. -/
def sh1 (p : Fin 3 → EReal) (a : Fin 3) : EReal := lit 0x3FDDB3D7#32 * dir p a

/-- The five second-order harmonics. -/
def sh2 (p : Fin 3 → EReal) (b : Fin 5) : EReal :=
  ![lit 0x4077DEF6#32 * dir p 0 * dir p 1,
    lit 0x4077DEF6#32 * dir p 1 * dir p 2,
    lit 0x3F8F1BBD#32 * (lit 0x40400000#32 * dir p 2 * dir p 2 - 1),
    lit 0x4077DEF6#32 * dir p 0 * dir p 2,
    lit 0x3FF7DEF6#32 * (dir p 0 * dir p 0 - dir p 1 * dir p 1)] b

/-- The length's distance from the `j`-th centre, in widths. -/
def gap (p : Fin 3 → EReal) (j : Fin 32) : EReal :=
  Ideal.div (dist p - (FloatOps.sitofp .f32 (BitVec.ofNat 32 j) : Idealize.ShloMosaic.Ideal .f32) * lit 0x3DE739CE#32) (lit 0x3DE00000#32)

/-- The `j`-th bump at the length. -/
def bump (p : Fin 3 → EReal) (j : Fin 32) : EReal := Ideal.exp (lit 0xBF000000#32 * (gap p j * gap p j))

/-- The normalised radial basis. -/
def basis (p : Fin 3 → EReal) (j : Fin 32) : EReal :=
  Ideal.div (bump p j * lit 0x40B504F3#32) (Ideal.sqrt (∑ l, bump p l * bump p l) + lit 0x3089705F#32)

/-- A hidden unit before its activation. -/
def pre (p : Fin 3 → EReal) (W : Fin 32 → Fin 16 → EReal) (h : Fin 16) : EReal :=
  Ideal.div (∑ j, basis p j * W j h) (lit 0x40B504F3#32)

/-- A hidden unit. -/
def hid (p : Fin 3 → EReal) (W : Fin 32 → Fin 16 → EReal) (h : Fin 16) : EReal :=
  pre p W h * Ideal.logistic (pre p W h)

/-- The hidden units' mixture of the source row's images, over the root of the row's length. -/
def mixed {n : ℕ} (p : Fin 3 → EReal) (W : Fin 32 → Fin 16 → EReal) (xs : Fin 128 → EReal) (T : Fin 16 → Fin 128 → Fin n → EReal)
    (w : Fin n) : EReal :=
  Ideal.div (∑ h, hid p W h * ∑ d, xs d * T h d w) (lit 0x413504F3#32)

/-- The edge's logit. -/
def logit (p : Fin 3 → EReal) (xs : Fin 128 → EReal) (qd : Fin 32 → EReal) (W : Fin 32 → Fin 16 → EReal)
    (T : Fin 16 → Fin 128 → Fin 16 → EReal) (tpq sim : Fin 32 → Fin 16 → EReal) : EReal :=
  Ideal.div (∑ w, (∑ j, qd j * sim j w) * (mixed p W xs T w + Ideal.div (∑ j, qd j * tpq j w) (lit 0x40B504F3#32))) (lit 0x41B504F3#32)

/-- The edge's sixty values: sixteen scalars, eight vectors of three, four of five. -/
def value (p : Fin 3 → EReal) (xs : Fin 128 → EReal) (W : Fin 32 → Fin 16 → EReal) (T : Fin 16 → Fin 128 → Fin 28 → EReal)
    (j : Fin 60) : EReal :=
  if h : (j : ℕ) < 16 then mixed p W xs T ⟨j, by omega⟩
  else if h' : (j : ℕ) - 16 < 24 then mixed p W xs T ⟨16 + (j - 16) / 3, by omega⟩ * sh1 p ⟨(j - 16) % 3, by omega⟩
  else mixed p W xs T ⟨24 + (j - 16 - 24) / 5, by omega⟩ * sh2 p ⟨(j - 16 - 24) % 5, by omega⟩

/-- The word of minus infinity. -/
theorem lit_bot : lit 0xFF800000#32 = ⊥ := by
  simp [lit, Ideal.ofBits, Ideal.ieee]

/-- The largest entry of a vector, as a fold over its indices. -/
theorem fold_idx1 {n : ℕ} (x : (⟨1, ![n]⟩ : Shape).Idx → EReal) :
    Finset.fold max (lit 0xFF800000#32) x Finset.univ = Finset.univ.sup fun e : Fin n => x (ix1 e) := by
  rw [lit_bot]
  show Finset.univ.sup x = _
  refine le_antisymm (Finset.sup_le fun i _ => ?_) (Finset.sup_le fun e _ => Finset.le_sup (f := x) (Finset.mem_univ _))
  rw [eq_ix1 i]
  exact Finset.le_sup (f := fun e : Fin n => x (ix1 e)) (Finset.mem_univ _)

/-- The second-order harmonics, told apart one by one. -/
theorem sh2_ladder (p : Fin 3 → EReal) (b : Fin 5) :
    (if (b : ℕ) < 1 then lit 0x4077DEF6#32 * dir p 0 * dir p 1
      else if (b : ℕ) - 1 < 1 then lit 0x4077DEF6#32 * dir p 1 * dir p 2
      else if (b : ℕ) - 1 - 1 < 1 then lit 0x3F8F1BBD#32 * (lit 0x40400000#32 * dir p 2 * dir p 2 - 1)
      else if (b : ℕ) - 1 - 1 - 1 < 1 then lit 0x4077DEF6#32 * dir p 0 * dir p 2
      else lit 0x3FF7DEF6#32 * (dir p 0 * dir p 0 - dir p 1 * dir p 1)) = sh2 p b := by
  fin_cases b <;> rfl

/-- A sum of sixteen terms, written out. -/
theorem chain16 (f : Fin 16 → EReal) :
    f 0 + f 1 + f 2 + f 3 + f 4 + f 5 + f 6 + f 7 + f 8 + f 9 + f 10 + f 11 + f 12 + f 13 + f 14 + f 15 = ∑ h, f h := by
  simp only [Fin.sum_univ_castSucc, Finset.univ_eq_empty, Finset.sum_empty, zero_add]
  rfl

/-- A sum against a zero-one column with its one at `k` is the term at `k`. -/
theorem sum_pick {n : ℕ} (f : Fin n → EReal) (k : Fin n) : ∑ a, f a * (if a = k then 1 else 0) = f k := by
  rw [Finset.sum_eq_single k]
  · rw [if_pos rfl, mul_one]
  · intro b _ hb; rw [if_neg hb, mul_zero]
  · intro h; exact absurd (Finset.mem_univ k) h

end Cert.Edge

end
-- ==== Proof.Net.lean ====
/- The layer over the extended reals: from the nodes, the edges' ends and the weights to the sum that each node receives. Nothing
   here is about a program. -/
module

public import proofs.«01_k».proof.Proof.Edge

@[expose] public section

noncomputable section

namespace Cert

open Idealize.ShloMosaic

/-- The layer's arguments. -/
structure Net where
  x : Fin 10000 → Fin 128 → EReal
  pos : Fin 10000 → Fin 3 → EReal
  src : Fin 160000 → BitVec 32
  dst : Fin 160000 → BitVec 32
  wq : Fin 128 → Fin 32 → EReal
  tpq : Fin 32 → Fin 16 → EReal
  sim : Fin 32 → Fin 16 → EReal
  kw1 : Fin 32 → Fin 16 → EReal
  kw2 : Fin 16 → Fin 2048 → EReal
  vw1 : Fin 32 → Fin 16 → EReal
  vw2 : Fin 16 → Fin 3584 → EReal

namespace Net

/-- The node that a word names. -/
def node (w : BitVec 32) : Fin 10000 := ⟨w.toNat % 10000, Nat.mod_lt _ (by decide)⟩

theorem node_eq {w : BitVec 32} (h : w.toNat < 10000) : node w = ⟨w.toNat, h⟩ := Fin.ext (Nat.mod_eq_of_lt h)

variable (N : Net)

/-- The edge's vector, from its source to its destination. -/
def vec (e : Fin 160000) (a : Fin 3) : EReal := N.pos (node (N.dst e)) a - N.pos (node (N.src e)) a

/-- A node's query row. -/
def query (n : Fin 10000) (j : Fin 32) : EReal := Ideal.div (∑ d, N.x n d * N.wq d j) (Edge.lit 0x413504F3#32)

/-- The keys' second weights, per head. -/
def kT (h : Fin 16) (d : Fin 128) (w : Fin 16) : EReal := Ideal.div (N.kw2 h ⟨d * 16 + w, by omega⟩) (Edge.lit 0x40800000#32)

/-- The values' second weights, per head. -/
def vT (h : Fin 16) (d : Fin 128) (w : Fin 28) : EReal := Ideal.div (N.vw2 h ⟨d * 28 + w, by omega⟩) (Edge.lit 0x40800000#32)

/-- The edge's logit. -/
def logit (e : Fin 160000) : EReal :=
  Edge.logit (N.vec e) (N.x (node (N.src e))) (N.query (node (N.dst e))) N.kw1 N.kT N.tpq N.sim

/-- The edge's values. -/
def value (e : Fin 160000) (j : Fin 60) : EReal := Edge.value (N.vec e) (N.x (node (N.src e))) N.vw1 N.vT j

/-- The largest logit. -/
def top : EReal := Finset.univ.sup N.logit

/-- The edge's weight before it is normalised. -/
def weight (e : Fin 160000) : EReal := Ideal.exp (N.logit e - N.top)

/-- What a node's weights add up to. -/
def total (n : Fin 10000) : EReal := ∑ e, if (N.dst e).toNat = n then N.weight e else 0

/-- What a node receives: its edges' values, each times its normalised weight. -/
def out (n : Fin 10000) (j : Fin 60) : EReal :=
  ∑ e, if (N.dst e).toNat = n then Ideal.div (N.weight e) (N.total n + Edge.lit 0x3089705F#32) * N.value e j else 0

end Net

end Cert

end
-- ==== Proof.Rows.lean ====
/- The rows of a table taken at a column of words, and rows added into a table at a column of words, read at an index. Nothing
   here is about a program. -/
module

public import Idealize.ShloMosaic.PureOps.Ideal
public import Idealize.ShloMosaic.Lib.Pointwise
public import Idealize.ShloMosaic.Lib.Routing.OpsPair

@[expose] public section

noncomputable section

namespace Cert.Rows

open Idealize.ShloMosaic

/-- A word below a bound under half its range, read signed, is the number. -/
theorem toInt_of_lt {w : BitVec 32} {N : ℕ} (h : w.toNat < N) (hN : N ≤ 2 ^ 31) : w.toInt = (w.toNat : Int) :=
  BitVec.toInt_eq_toNat_of_lt (by omega)

/-! ## Taking rows -/

/-- The dimension numbers of a take of rows. -/
abbrev takeDims (N C E : ℕ) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Row `e` of a take of rows is the table's row that word `e` names, when it names one. -/
theorem take_at {α : Type} {N C E : ℕ} (wf : GatherDims.WF ⟨2, ![N, C]⟩ ⟨2, ![E, 1]⟩ ⟨2, ![E, C]⟩ [1] [0] [] [0] [] 1 ![1, C]) (hN : N ≤ 2 ^ 31)
    (x : (⟨2, ![N, C]⟩ : Shape).Idx → α) (idx : IVec ⟨2, ![E, 1]⟩ 32) (e : Fin E) (c : Fin C) (h : (idx (ix2 e 0)).toNat < N) :
    Host.gather (takeDims N C E wf) x idx (ix2 e c) = x (ix2 ⟨(idx (ix2 e 0)).toNat, h⟩ c) := by
  unfold Host.gather
  refine congrArg x (funext fun a => Fin.ext ?_)
  show (takeDims N C E wf).start (ix2 e c) idx a + (takeDims N C E wf).batchCoord (ix2 e c) a + (takeDims N C E wf).offCoord (ix2 e c) a = _
  rw [GatherDims.batchCoord_eq_zero _ _ _ List.not_mem_nil]
  match a with
  | ⟨0, _⟩ =>
    show (takeDims N C E wf).start (ix2 e c) idx (0 : Fin 2) + 0 + (takeDims N C E wf).offCoord (ix2 e c) (0 : Fin 2) = (idx (ix2 e 0)).toNat
    rw [GatherDims.offCoord_eq_zero _ _ _ (fun h => ((GatherDims.mem_sKept _ _).mp h).1 (List.mem_singleton.mpr rfl))]
    unfold GatherDims.start
    rw [dif_pos (show (0 : Fin 2) ∈ (takeDims N C E wf).startIndexMap from List.mem_singleton.mpr rfl)]
    have hsi : (takeDims N C E wf).siIdx (ix2 e c) ⟨List.idxOf (0 : Fin 2) (takeDims N C E wf).startIndexMap,
        List.idxOf_lt_length_iff.2 (List.mem_singleton.mpr rfl)⟩ = ix2 e 0 := by
      funext b; refine Fin.ext ?_
      match b with
      | ⟨0, _⟩ => rfl
      | ⟨1, _⟩ => rfl
    show min (idx ((takeDims N C E wf).siIdx (ix2 e c) ⟨List.idxOf (0 : Fin 2) (takeDims N C E wf).startIndexMap,
        List.idxOf_lt_length_iff.2 (List.mem_singleton.mpr rfl)⟩)).toInt.toNat (N - 1) + 0 + 0 = (idx (ix2 e 0)).toNat
    rw [hsi, toInt_of_lt h hN]
    omega
  | ⟨1, _⟩ =>
    show (takeDims N C E wf).start (ix2 e c) idx (1 : Fin 2) + 0 + (takeDims N C E wf).offCoord (ix2 e c) (1 : Fin 2) = c.val
    unfold GatherDims.start
    rw [dif_neg (fun h => absurd (List.mem_singleton.mp h) (by simp))]
    unfold GatherDims.offCoord
    rw [dif_pos ((GatherDims.mem_sKept _ _).mpr ⟨fun h => absurd (List.mem_singleton.mp h) (by simp), List.not_mem_nil⟩)]
    show 0 + 0 + c.val = c.val
    omega

/-- The dimension numbers of a take of entries. -/
abbrev takeDims1 (N E : ℕ) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry `e` of a take of entries is the vector's entry that word `e` names, when it names one. -/
theorem take_at1 {α : Type} {N E : ℕ} (wf : GatherDims.WF ⟨1, ![N]⟩ ⟨2, ![E, 1]⟩ ⟨1, ![E]⟩ [] [0] [] [0] [] 1 ![1]) (hN : N ≤ 2 ^ 31)
    (x : (⟨1, ![N]⟩ : Shape).Idx → α) (idx : IVec ⟨2, ![E, 1]⟩ 32) (e : Fin E) (h : (idx (ix2 e 0)).toNat < N) :
    Host.gather (takeDims1 N E wf) x idx (ix1 e) = x (ix1 ⟨(idx (ix2 e 0)).toNat, h⟩) := by
  unfold Host.gather
  refine congrArg x (funext fun a => Fin.ext ?_)
  show (takeDims1 N E wf).start (ix1 e) idx a + (takeDims1 N E wf).batchCoord (ix1 e) a + (takeDims1 N E wf).offCoord (ix1 e) a = _
  rw [GatherDims.batchCoord_eq_zero _ _ _ List.not_mem_nil]
  match a with
  | ⟨0, _⟩ =>
    show (takeDims1 N E wf).start (ix1 e) idx (0 : Fin 1) + 0 + (takeDims1 N E wf).offCoord (ix1 e) (0 : Fin 1) = (idx (ix2 e 0)).toNat
    rw [GatherDims.offCoord_eq_zero _ _ _ (fun h => ((GatherDims.mem_sKept _ _).mp h).1 (List.mem_singleton.mpr rfl))]
    unfold GatherDims.start
    rw [dif_pos (show (0 : Fin 1) ∈ (takeDims1 N E wf).startIndexMap from List.mem_singleton.mpr rfl)]
    have hsi : (takeDims1 N E wf).siIdx (ix1 e) ⟨List.idxOf (0 : Fin 1) (takeDims1 N E wf).startIndexMap,
        List.idxOf_lt_length_iff.2 (List.mem_singleton.mpr rfl)⟩ = ix2 e 0 := by
      funext b; refine Fin.ext ?_
      match b with
      | ⟨0, _⟩ => rfl
      | ⟨1, _⟩ => rfl
    show min (idx ((takeDims1 N E wf).siIdx (ix1 e) ⟨List.idxOf (0 : Fin 1) (takeDims1 N E wf).startIndexMap,
        List.idxOf_lt_length_iff.2 (List.mem_singleton.mpr rfl)⟩)).toInt.toNat (N - 1) + 0 + 0 = (idx (ix2 e 0)).toNat
    rw [hsi, toInt_of_lt h hN]
    omega

/-! ## Adding rows -/

/-- The dimension numbers of an addition of rows. -/
abbrev addDims (N C E : ℕ) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

theorem add_lands {N C E : ℕ} (wf : ScatterDims.WF ⟨2, ![N, C]⟩ ⟨2, ![E, 1]⟩ ⟨2, ![E, C]⟩ [1] [0] [0] 1)
    (idx : IVec ⟨2, ![E, 1]⟩ 32) (e : Fin E) (c' : Fin C) (n : Fin N) (c : Fin C) :
    (addDims N C E wf).resultIdx? (ix2 e c') idx = some (ix2 n c) ↔ (idx (ix2 e 0)).toInt = (n.val : Int) ∧ c' = c := by
  rw [Routing.resultIdx?_eq_some]
  have hsi : (addDims N C E wf).siIdx (ix2 e c') ⟨List.idxOf (0 : Fin 2) (addDims N C E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  have h0 : (addDims N C E wf).start (ix2 e c') idx (0 : Fin 2) = (idx (ix2 e 0)).toInt := by
    unfold ScatterDims.start
    rw [dif_pos (List.mem_singleton.mpr rfl), hsi]
  have h1 : (addDims N C E wf).start (ix2 e c') idx (1 : Fin 2) = 0 := by
    unfold ScatterDims.start
    rw [dif_neg (fun h => absurd (List.mem_singleton.mp h) (by simp))]
  have w0 : (addDims N C E wf).window (ix2 e c') (0 : Fin 2) = 0 := rfl
  have w1 : (addDims N C E wf).window (ix2 e c') (1 : Fin 2) = c'.val := rfl
  constructor
  · intro h
    have a0 := h 0; have a1 := h 1
    rw [h0, w0] at a0; rw [h1, w1] at a1
    have a0' : (idx (ix2 e 0)).toInt + (0 : ℕ) = (n.val : Int) := a0
    have a1' : (0 : Int) + (c'.val : Int) = (c.val : Int) := a1
    exact ⟨by omega, Fin.ext (by omega)⟩
  · rintro ⟨h, rfl⟩ a
    match a with
    | ⟨0, _⟩ =>
      show (addDims N C E wf).start (ix2 e c') idx (0 : Fin 2) + ((addDims N C E wf).window (ix2 e c') (0 : Fin 2) : Int) = (n.val : Int)
      rw [h0, w0, h]; simp
    | ⟨1, _⟩ =>
      show (addDims N C E wf).start (ix2 e c') idx (1 : Fin 2) + ((addDims N C E wf).window (ix2 e c') (1 : Fin 2) : Int) = (c'.val : Int)
      rw [h1, w1]; simp

/-- An addition of rows, read at an index: the table's entry and the entries of the rows whose words name its row. -/
theorem add_at {N C E : ℕ} (wf : ScatterDims.WF ⟨2, ![N, C]⟩ ⟨2, ![E, 1]⟩ ⟨2, ![E, C]⟩ [1] [0] [0] 1) (hN : N ≤ 2 ^ 31)
    (x : FVec Ideal ⟨2, ![N, C]⟩ .f32) (idx : IVec ⟨2, ![E, 1]⟩ 32) (upd : FVec Ideal ⟨2, ![E, C]⟩ .f32) (h : ∀ e, (idx (ix2 e 0)).toNat < N)
    (n : Fin N) (c : Fin C) :
    Host.scatterAdd (addDims N C E wf) x idx upd (ix2 n c)
      = x (ix2 n c) + ∑ e : Fin E, if (idx (ix2 e 0)).toNat = n then (upd (ix2 e c) : EReal) else 0 := by
  show Ideal.hostScatterAdd (addDims N C E wf) x idx upd (ix2 n c) = _
  unfold Ideal.hostScatterAdd
  rw [Finset.sum_filter, sum_idx2]
  refine congrArg _ (Finset.sum_congr rfl fun e _ => ?_)
  rw [Finset.sum_eq_single c]
  · refine if_congr ?_ rfl rfl
    rw [add_lands, toInt_of_lt (h e) hN]
    constructor
    · rintro ⟨h, -⟩; omega
    · intro h; exact ⟨by omega, rfl⟩
  · intro c' _ hc
    exact if_neg fun q => hc ((add_lands wf idx e c' n c).1 q).2
  · intro hc; exact absurd (Finset.mem_univ c) hc

/-- The dimension numbers of an addition of entries. -/
abbrev addDims1 (N E : ℕ) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

theorem add_lands1 {N E : ℕ} (wf : ScatterDims.WF ⟨1, ![N]⟩ ⟨2, ![E, 1]⟩ ⟨1, ![E]⟩ [] [0] [0] 1)
    (idx : IVec ⟨2, ![E, 1]⟩ 32) (e : Fin E) (n : Fin N) :
    (addDims1 N E wf).resultIdx? (ix1 e) idx = some (ix1 n) ↔ (idx (ix2 e 0)).toInt = (n.val : Int) := by
  rw [Routing.resultIdx?_eq_some]
  have hsi : (addDims1 N E wf).siIdx (ix1 e) ⟨List.idxOf (0 : Fin 1) (addDims1 N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  have h0 : (addDims1 N E wf).start (ix1 e) idx (0 : Fin 1) = (idx (ix2 e 0)).toInt := by
    unfold ScatterDims.start
    rw [dif_pos (List.mem_singleton.mpr rfl), hsi]
  have w0 : (addDims1 N E wf).window (ix1 e) (0 : Fin 1) = 0 := rfl
  constructor
  · intro h
    have a0 := h 0
    rw [h0, w0] at a0
    have a0' : (idx (ix2 e 0)).toInt + (0 : ℕ) = (n.val : Int) := a0
    omega
  · rintro h a
    match a with
    | ⟨0, _⟩ =>
      show (addDims1 N E wf).start (ix1 e) idx (0 : Fin 1) + ((addDims1 N E wf).window (ix1 e) (0 : Fin 1) : Int) = (n.val : Int)
      rw [h0, w0, h]; simp

/-- An addition of entries, read at an index. -/
theorem add_at1 {N E : ℕ} (wf : ScatterDims.WF ⟨1, ![N]⟩ ⟨2, ![E, 1]⟩ ⟨1, ![E]⟩ [] [0] [0] 1) (hN : N ≤ 2 ^ 31)
    (x : FVec Ideal ⟨1, ![N]⟩ .f32) (idx : IVec ⟨2, ![E, 1]⟩ 32) (upd : FVec Ideal ⟨1, ![E]⟩ .f32) (h : ∀ e, (idx (ix2 e 0)).toNat < N)
    (n : Fin N) :
    Host.scatterAdd (addDims1 N E wf) x idx upd (ix1 n)
      = x (ix1 n) + ∑ e : Fin E, if (idx (ix2 e 0)).toNat = n then (upd (ix1 e) : EReal) else 0 := by
  show Ideal.hostScatterAdd (addDims1 N E wf) x idx upd (ix1 n) = _
  unfold Ideal.hostScatterAdd
  rw [Finset.sum_filter, sum_idx1]
  refine congrArg _ (Finset.sum_congr rfl fun e _ => ?_)
  refine if_congr ?_ rfl rfl
  rw [add_lands1, toInt_of_lt (h e) hN]
  omega

end Cert.Rows

end
-- ==== Proof.RefEdge.lean ====
/- The reference's arrays, read at an edge. -/
module

public import proofs.«01_k».proof.Proof.Gen.ReferenceIdeal.Run
public import proofs.«01_k».proof.Proof.Net
public import proofs.«01_k».proof.Proof.Rows
public import Idealize.ShloMosaic.Lib.Pointwise

@[expose] public section

set_option maxRecDepth 16384

noncomputable section

namespace Cert.ReferenceIdeal.Val

open Cert.ReferenceIdeal Cert.ReferenceIdeal.Gen Cert.ReferenceIdeal.Value
open Idealize.ShloMosaic Idealize.ShloMosaic.TcCoe

variable (V0 : Valuation τ sig (Elt Idealize.ShloMosaic.Ideal))

/-- The layer's arguments as the reference is given them. -/
def net : Net where
  x n d := (V0 (Proc.devRef .tc main_arg0) : FVec Idealize.ShloMosaic.Ideal S10000x128 .f32) (ix2 n d)
  pos n a := (V0 (Proc.devRef .tc main_arg1) : FVec Idealize.ShloMosaic.Ideal S10000x3 .f32) (ix2 n a)
  src e := (V0 (Proc.devRef .tc main_arg2) : IVec S2x160000 32) (ix2 0 e)
  dst e := (V0 (Proc.devRef .tc main_arg2) : IVec S2x160000 32) (ix2 1 e)
  wq d j := (V0 (Proc.devRef .tc main_arg3) : FVec Idealize.ShloMosaic.Ideal S128x32 .f32) (ix2 d j)
  tpq j w := (V0 (Proc.devRef .tc main_arg4) : FVec Idealize.ShloMosaic.Ideal S32x16 .f32) (ix2 j w)
  sim j w := (V0 (Proc.devRef .tc main_arg5) : FVec Idealize.ShloMosaic.Ideal S32x16 .f32) (ix2 j w)
  kw1 j w := (V0 (Proc.devRef .tc main_arg6) : FVec Idealize.ShloMosaic.Ideal S32x16 .f32) (ix2 j w)
  kw2 h l := (V0 (Proc.devRef .tc main_arg7) : FVec Idealize.ShloMosaic.Ideal S16x2048 .f32) (ix2 h l)
  vw1 j w := (V0 (Proc.devRef .tc main_arg8) : FVec Idealize.ShloMosaic.Ideal S32x16 .f32) (ix2 j w)
  vw2 h l := (V0 (Proc.devRef .tc main_arg9) : FVec Idealize.ShloMosaic.Ideal S16x3584 .f32) (ix2 h l)

/-- A word column after the wrap of negative indices. -/
abbrev wrapped (i : IVec S160000 32) : IVec S160000x1 32 :=
  broadcastInDim S160000x1 ![0] bcast_S160000_S160000x1_0 (select (cmpi .slt i (broadcastInDim S160000 ![] bcast_S_S160000 (constantI S_ 32 0#32)))
    (addi i (broadcastInDim S160000 ![] bcast_S_S160000 (constantI S_ 32 10000#32))) i)

theorem wrapped_at (i : IVec S160000 32) (e : Fin 160000) (h : (i (ix1 e)).toNat < 10000) : wrapped i (ix2 e 0) = i (ix1 e) := by
  pointwise [wrapped]
  exact Routing.wrap_of_lt _ _ (by omega)

theorem src_at (e : Fin 160000) : (res_main_v1 V0 : IVec S160000 32) (ix1 e) = (net V0).src e := by
  pointwise [res_main_v1]
  rfl

theorem dst_at (e : Fin 160000) : (res_main_v3 V0 : IVec S160000 32) (ix1 e) = (net V0).dst e := by
  pointwise [res_main_v3]
  rfl

variable (hs : ∀ e, ((net V0).src e).toNat < 10000) (hd : ∀ e, ((net V0).dst e).toNat < 10000)

/-- The rows of a table at a wrapped column of words. -/
theorem rows3_at (x : FVec Idealize.ShloMosaic.Ideal S10000x3 .f32) (i : IVec S160000 32) (e : Fin 160000) (a : Fin 3) (h : (i (ix1 e)).toNat < 10000) :
    Host.gather gather_S10000x3_S160000x1_S160000x3_1_0_n_n_0_1_13 x (wrapped i) (ix2 e a) = x (ix2 (Net.node (i (ix1 e))) a) := by
  have hw := wrapped_at i e h
  refine (Rows.take_at _ (by norm_num) x (wrapped i) e a (by rw [hw]; exact h)).trans ?_
  refine congrArg (fun n => x (ix2 n a)) (Fin.ext ?_)
  show (wrapped i (ix2 e 0)).toNat = _
  rw [hw, Net.node_eq h]

theorem rows128_at (x : FVec Idealize.ShloMosaic.Ideal S10000x128 .f32) (i : IVec S160000 32) (e : Fin 160000) (a : Fin 128) (h : (i (ix1 e)).toNat < 10000) :
    Host.gather gather_S10000x128_S160000x1_S160000x128_1_0_n_n_0_1_1128 x (wrapped i) (ix2 e a) = x (ix2 (Net.node (i (ix1 e))) a) := by
  have hw := wrapped_at i e h
  refine (Rows.take_at _ (by norm_num) x (wrapped i) e a (by rw [hw]; exact h)).trans ?_
  refine congrArg (fun n => x (ix2 n a)) (Fin.ext ?_)
  show (wrapped i (ix2 e 0)).toNat = _
  rw [hw, Net.node_eq h]

theorem rows32_at (x : FVec Idealize.ShloMosaic.Ideal S10000x32 .f32) (i : IVec S160000 32) (e : Fin 160000) (a : Fin 32) (h : (i (ix1 e)).toNat < 10000) :
    Host.gather gather_S10000x32_S160000x1_S160000x32_1_0_n_n_0_1_132 x (wrapped i) (ix2 e a) = x (ix2 (Net.node (i (ix1 e))) a) := by
  have hw := wrapped_at i e h
  refine (Rows.take_at _ (by norm_num) x (wrapped i) e a (by rw [hw]; exact h)).trans ?_
  refine congrArg (fun n => x (ix2 n a)) (Fin.ext ?_)
  show (wrapped i (ix2 e 0)).toNat = _
  rw [hw, Net.node_eq h]

theorem entries_at (x : FVec Idealize.ShloMosaic.Ideal S10000 .f32) (i : IVec S160000 32) (e : Fin 160000) (h : (i (ix1 e)).toNat < 10000) :
    Host.gather gather_S10000_S160000x1_S160000_n_0_n_n_0_1_1 x (wrapped i) (ix1 e) = x (ix1 (Net.node (i (ix1 e)))) := by
  have hw := wrapped_at i e h
  refine (Rows.take_at1 _ (by norm_num) x (wrapped i) e (by rw [hw]; exact h)).trans ?_
  refine congrArg (fun n => x (ix1 n)) (Fin.ext ?_)
  show (wrapped i (ix2 e 0)).toNat = _
  rw [hw, Net.node_eq h]

include hs hd in
theorem vec_at (e : Fin 160000) (a : Fin 3) : (res_main_v18 V0 : FVec Idealize.ShloMosaic.Ideal S160000x3 .f32) (ix2 e a) = (net V0).vec e a := by
  unfold res_main_v18
  pointwise []
  refine (congrArg₂ (fun u v : EReal => u - v) (rows3_at _ _ e a (by rw [dst_at]; exact hd e)) (rows3_at _ _ e a (by rw [src_at]; exact hs e))).trans ?_
  rw [dst_at, src_at]
  rfl

include hs hd in
theorem dist_at (e : Fin 160000) : (res_main_v19 V0 : FVec Idealize.ShloMosaic.Ideal S160000 .f32) (ix1 e) = Edge.dist ((net V0).vec e) := by
  pointwise [res_main_v19]
  simp only [vec_at V0 hs hd]
  rfl

include hs hd in
theorem dir_at (e : Fin 160000) (a : Fin 3) : (res_main_v24 V0 : FVec Idealize.ShloMosaic.Ideal S160000x3 .f32) (ix2 e a) = Edge.dir ((net V0).vec e) a := by
  pointwise [res_main_v24]
  simp only [vec_at V0 hs hd, dist_at V0 hs hd]
  rfl

include hs hd in
theorem dir0_at (e : Fin 160000) : (res_main_v26 V0 : FVec Idealize.ShloMosaic.Ideal S160000 .f32) (ix1 e) = Edge.dir ((net V0).vec e) 0 := by
  pointwise [res_main_v26]
  simp only [dir_at V0 hs hd]

include hs hd in
theorem dir1_at (e : Fin 160000) : (res_main_v28 V0 : FVec Idealize.ShloMosaic.Ideal S160000 .f32) (ix1 e) = Edge.dir ((net V0).vec e) 1 := by
  pointwise [res_main_v28]
  simp only [dir_at V0 hs hd]

include hs hd in
theorem dir2_at (e : Fin 160000) : (res_main_v30 V0 : FVec Idealize.ShloMosaic.Ideal S160000 .f32) (ix1 e) = Edge.dir ((net V0).vec e) 2 := by
  pointwise [res_main_v30]
  simp only [dir_at V0 hs hd]

include hs hd in
theorem gap_at (e : Fin 160000) (j : Fin 32) : (res_main_v69 V0 : FVec Idealize.ShloMosaic.Ideal S160000x32 .f32) (ix2 e j) = Edge.gap ((net V0).vec e) j := by
  pointwise [res_main_v69]
  simp only [dist_at V0 hs hd]
  rfl

include hs hd in
theorem bump_at (e : Fin 160000) (j : Fin 32) : (res_main_v73 V0 : FVec Idealize.ShloMosaic.Ideal S160000x32 .f32) (ix2 e j) = Edge.bump ((net V0).vec e) j := by
  pointwise [res_main_v73]
  simp only [gap_at V0 hs hd]
  rfl

include hs hd in
theorem basis_at (e : Fin 160000) (j : Fin 32) : (res_main_v80 V0 : FVec Idealize.ShloMosaic.Ideal S160000x32 .f32) (ix2 e j) = Edge.basis ((net V0).vec e) j := by
  pointwise [res_main_v80]
  simp only [bump_at V0 hs hd]
  rfl

include hs hd in
theorem kpre_at (e : Fin 160000) (h : Fin 16) : (res_main_v83 V0 : FVec Idealize.ShloMosaic.Ideal S160000x16 .f32) (ix2 e h) = Edge.pre ((net V0).vec e) (net V0).kw1 h := by
  pointwise [res_main_v83]
  simp only [basis_at V0 hs hd]
  rfl

include hs hd in
theorem vpre_at (e : Fin 160000) (h : Fin 16) : (res_main_v87 V0 : FVec Idealize.ShloMosaic.Ideal S160000x16 .f32) (ix2 e h) = Edge.pre ((net V0).vec e) (net V0).vw1 h := by
  pointwise [res_main_v87]
  simp only [basis_at V0 hs hd]
  rfl

include hs in
theorem xs_at (e : Fin 160000) (d : Fin 128) : (res_main_v95 V0 : FVec Idealize.ShloMosaic.Ideal S160000x128 .f32) (ix2 e d) = (net V0).x (Net.node ((net V0).src e)) d := by
  refine (rows128_at _ _ e d (by rw [src_at]; exact hs e)).trans ?_
  rw [src_at]
  rfl

include hd in
theorem query_at (e : Fin 160000) (j : Fin 32) : (res_main_v112 V0 : FVec Idealize.ShloMosaic.Ideal S160000x32 .f32) (ix2 e j) = (net V0).query (Net.node ((net V0).dst e)) j := by
  refine (rows32_at _ _ e j (by rw [dst_at]; exact hd e)).trans ?_
  rw [dst_at]
  pointwise []
  rfl

include hs hd in
theorem logit_at (e : Fin 160000) : (res_main_v120 V0 : FVec Idealize.ShloMosaic.Ideal S160000 .f32) (ix1 e) = (net V0).logit e := by
  pointwise [res_main_v120]
  simp only [kpre_at V0 hs hd, xs_at V0 hs, query_at V0 hd]
  unfold Net.logit Edge.logit
  refine congrArg (fun t : EReal => Ideal.div t (Edge.lit 0x41B504F3#32)) (Finset.sum_congr rfl fun w _ => ?_)
  refine (mul_comm _ _).trans (congrArg₂ (fun u v : EReal => u * v) (Finset.sum_congr rfl fun j _ => mul_comm _ _) ?_)
  rfl

include hs hd in
theorem mixed_at (e : Fin 160000) (w : Fin 28) : (res_main_v144 V0 : FVec Idealize.ShloMosaic.Ideal S160000x28 .f32) (ix2 e w)
    = Edge.mixed ((net V0).vec e) (net V0).vw1 ((net V0).x (Net.node ((net V0).src e))) (net V0).vT w := by
  pointwise [res_main_v144]
  simp only [vpre_at V0 hs hd, xs_at V0 hs]
  rfl

/-- The largest of a vector's entries, as a reduction over its indices. -/
theorem top_at (x : S160000.Idx → EReal) : Finset.fold max (Ideal.ofBits .f32 0xFF800000#32) x {i | reducesTo_S160000_S_d0.drop i = ix0} = Finset.univ.sup fun e : Fin 160000 => x (ix1 e) := by
  rw [Finset.filter_true_of_mem (fun i _ => Subsingleton.elim _ _)]
  exact Edge.fold_idx1 x

include hs hd in
theorem weight_at (e : Fin 160000) : (res_main_v124 V0 : FVec Idealize.ShloMosaic.Ideal S160000 .f32) (ix1 e) = (net V0).weight e := by
  pointwise [res_main_v124]
  rw [logit_at V0 hs hd]
  refine congrArg (fun t : EReal => Ideal.exp ((net V0).logit e - t)) ((top_at (res_main_v120 V0)).trans ?_)
  exact Finset.sup_congr rfl fun e' _ => logit_at V0 hs hd e'

include hs hd in
theorem total_at (n : Fin 10000) :
    Host.scatterAdd scatter_S10000_S160000x1_S160000_n_0_0_1 (broadcastInDim S10000 ![] bcast_S_S10000 (constant S_ .f32 0x00000000#32))
        (broadcastInDim S160000x1 ![0] bcast_S160000_S160000x1_0 (res_main_v3 V0)) (res_main_v124 V0) (ix1 n) = (net V0).total n := by
  have hi : ∀ e : Fin 160000, (broadcastInDim S160000x1 ![0] bcast_S160000_S160000x1_0 (res_main_v3 V0 : IVec S160000 32)) (ix2 e 0) = (net V0).dst e := by
    intro e
    pointwise []
    exact dst_at V0 e
  refine (Rows.add_at1 _ (by norm_num) _ _ _ (fun e => by rw [hi]; exact hd e) n).trans ?_
  simp only [hi, weight_at V0 hs hd]
  pointwise []
  rfl

include hs hd in
theorem out_at (n : Fin 10000) (c : Fin 60) : (res_main_v166 V0 : FVec Idealize.ShloMosaic.Ideal S10000x60 .f32) (ix2 n c) = (net V0).out n c := by
  have hi : ∀ e : Fin 160000, (broadcastInDim S160000x1 ![0] bcast_S160000_S160000x1_0 (res_main_v3 V0 : IVec S160000 32)) (ix2 e 0) = (net V0).dst e := by
    intro e
    pointwise []
    exact dst_at V0 e
  unfold res_main_v166
  refine (Rows.add_at _ (by norm_num) _ _ _ (fun e => by rw [hi]; exact hd e) n c).trans ?_
  simp only [hi]
  unfold Net.out
  refine (congrArg₂ (fun u v : EReal => u + v) ?_ (Finset.sum_congr rfl fun e _ => ?_)).trans (zero_add _)
  · pointwise []
  · by_cases h : ((net V0).dst e).toNat = n
    · rw [if_pos h, if_pos h]
      pointwise []
      have hn : Net.node ((net V0).dst e) = n := (Net.node_eq (hd e)).trans (Fin.ext h)
      have hg := entries_at (Host.scatterAdd scatter_S10000_S160000x1_S160000_n_0_0_1 (broadcastInDim S10000 ![] bcast_S_S10000 (constant S_ .f32 0x00000000#32))
        (broadcastInDim S160000x1 ![0] bcast_S160000_S160000x1_0 (res_main_v3 V0)) (res_main_v124 V0)) (res_main_v3 V0) e (by rw [dst_at]; exact hd e)
      rw [dst_at, hn, total_at V0 hs hd] at hg
      refine congrArg₂ (fun u v : EReal => u * v) (congrArg₂ (fun u v : EReal => Ideal.div u (v + Edge.lit 0x3089705F#32)) (weight_at V0 hs hd e) hg) ?_
      unfold Net.value Edge.value
      simp only [mixed_at V0 hs hd, dir_at V0 hs hd, dir0_at V0 hs hd, dir1_at V0 hs hd, dir2_at V0 hs hd]
      refine dite_congr rfl (fun h => rfl) (fun h => dite_congr rfl (fun h' => rfl) (fun h' => ?_))
      refine congrArg (fun v : EReal => Edge.mixed _ _ _ _ _ * v) ?_
      exact Edge.sh2_ladder ((net V0).vec e) ⟨(c - 16 - 24) % 5, Nat.mod_lt _ (by decide)⟩
    · rw [if_neg h, if_neg h]

end Cert.ReferenceIdeal.Val

end
-- ==== Proof.KernelIdeal.PayEdge.lean ====
/- What the edge call stores, read at a row of its block: the edge's logit, its values, and the block's largest logit. -/
module

public import proofs.«01_k».proof.Proof.Gen.KernelIdeal.Skeleton
public import proofs.«01_k».proof.Proof.Edge
public import Idealize.ShloMosaic.Lib.Pointwise

@[expose] public section

set_option maxRecDepth 16384

noncomputable section

namespace Cert.KernelIdeal.Pay

open Cert.KernelIdeal Cert.KernelIdeal.Gen
open Idealize.ShloMosaic Idealize.ShloMosaic.TcCoe

/-- Row `r` of a block of two axes. -/
abbrev row {n m : ℕ} (x : FVec Ideal ⟨2, ![n, m]⟩ .f32) (r : Fin n) : Fin m → EReal := fun a => x (ix2 r a)

/-- The two axes of a matrix as arguments. -/
abbrev mat {n m : ℕ} (x : FVec Ideal ⟨2, ![n, m]⟩ .f32) : Fin n → Fin m → EReal := fun a b => x (ix2 a b)

/-- The per-head weights out of the wide matrix: head `h` takes the `n` columns from `h * n`. -/
abbrev heads {n N : ℕ} (hN : 16 * n = N) (x : FVec Ideal ⟨2, ![128, N]⟩ .f32) : Fin 16 → Fin 128 → Fin n → EReal :=
  fun h d w => x (ix2 d ⟨h * n + w, by have := h.isLt; have := w.isLt; nlinarith⟩)

variable (vec : FVec Ideal S2000x3 .f32) (xs : FVec Ideal S2000x128 .f32) (qd : FVec Ideal S2000x32 .f32)
  (wk : FVec Ideal S128x256 .f32) (wv : FVec Ideal S128x448 .f32) (kw vw tpq sim : FVec Ideal S32x16 .f32)

theorem dist_at (r : Fin 2000) : k1_pay2 (F := Ideal) vec (ix2 r 0) = Edge.dist (row vec r) := by
  pointwise [k1_pay2, k1_pay1]
  rfl

theorem dir_at (r : Fin 2000) (a : Fin 3) : k1_pay3 (F := Ideal) vec (ix2 r a) = Edge.dir (row vec r) a := by
  pointwise [k1_pay3, k1_pay2, k1_pay1]
  rfl

theorem sh1_at (r : Fin 2000) (a : Fin 3) : k1_pay4 (F := Ideal) vec (ix2 r a) = Edge.sh1 (row vec r) a := by
  pointwise [k1_pay4, k1_pay3, k1_pay2, k1_pay1]
  rfl

theorem sh2_at (r : Fin 2000) (b : Fin 5) : k1_pay5 (F := Ideal) vec (ix2 r b) = Edge.sh2 (row vec r) b := by
  pointwise [k1_pay5]
  simp only [dir_at]
  fin_cases b <;> rfl

theorem gap_at (r : Fin 2000) (j : Fin 32) :
    Ideal.div (k1_pay6 (F := Ideal) vec (ix2 r j)) (k1_pay7 (F := Ideal) (ix2 r j)) = Edge.gap (row vec r) j := by
  pointwise [k1_pay6, k1_pay7]
  rw [dist_at]
  rfl

theorem basis_at (r : Fin 2000) (j : Fin 32) :
    k1_pay8 (k1_pay6 (F := Ideal) vec) (k1_pay7 (F := Ideal)) (ix2 r j) = Edge.basis (row vec r) j := by
  pointwise [k1_pay8]
  simp only [gap_at]
  rfl

theorem khid_at (r : Fin 2000) (h : Fin 16) :
    k1_pay9 (k1_pay6 (F := Ideal) vec) (k1_pay7 (F := Ideal)) kw (ix2 r h) = Edge.hid (row vec r) (mat kw) h := by
  pointwise [k1_pay9]
  simp only [basis_at]
  rfl

theorem vhid_at (r : Fin 2000) (h : Fin 16) :
    k1_pay10 (k1_pay6 (F := Ideal) vec) (k1_pay7 (F := Ideal)) vw (ix2 r h) = Edge.hid (row vec r) (mat vw) h := by
  pointwise [k1_pay10]
  simp only [basis_at]
  rfl

theorem ktp_at (r : Fin 2000) (l : Fin 256) : k1_pay13 (F := Ideal) xs wk (ix2 r l) = ∑ d, xs (ix2 r d) * wk (ix2 d l) := by
  pointwise [k1_pay13, k1_pay11]

theorem vtp_at (r : Fin 2000) (l : Fin 448) : k1_pay17 (k1_pay11 (F := Ideal) xs) wv (ix2 r l) = ∑ d, xs (ix2 r d) * wv (ix2 d l) := by
  pointwise [k1_pay17, k1_pay11]

/-- The logits that the call stores. -/
def logits : FVec Ideal S2000x1 .f32 :=
  k1_pay16 (k1_pay9 (k1_pay6 vec) k1_pay7 kw) (k1_pay12 qd) (k1_pay13 xs wk)
    (k1_pay15 (k1_pay9 (k1_pay6 vec) k1_pay7 kw) (k1_pay13 xs wk) (k1_pay14 (k1_pay6 vec) k1_pay7 kw xs wk)) tpq sim

theorem logits_at (r : Fin 2000) :
    logits vec xs qd wk kw tpq sim (ix2 r 0)
      = Edge.logit (row vec r) (row xs r) (row qd r) (mat kw) (heads (n := 16) rfl wk) (mat tpq) (mat sim) := by
  pointwise [logits, k1_pay16, k1_pay15, k1_pay14, k1_pay12]
  simp only [khid_at, ktp_at]
  unfold Edge.logit Edge.mixed
  refine congrArg (Ideal.div · _) (Finset.sum_congr rfl fun w _ => ?_)
  refine congrArg (_ * ·) (congrArg (· + _) (congrArg (Ideal.div · _) ?_))
  refine Eq.trans ?_ (Edge.chain16 _)
  simp only [heads, row, Fin.isValue, Fin.coe_ofNat_eq_mod, Nat.reduceMod, Nat.reduceMul, Nat.zero_mod, zero_mul, zero_add, one_mul, Nat.one_mod]

/-- The values that the call stores. -/
def values (R1 : FVec Ideal S8x24 .f32) (T1 : FVec Ideal S3x24 .f32) (R2 : FVec Ideal S4x20 .f32) (T2 : FVec Ideal S5x20 .f32) :
    FVec Ideal S2000x60 .f32 :=
  k1_pay24 (k1_pay4 vec) (k1_pay5 vec) (k1_pay10 (k1_pay6 vec) k1_pay7 vw) (k1_pay17 (k1_pay11 xs) wv)
    (k1_pay21 (k1_pay10 (k1_pay6 vec) k1_pay7 vw) (k1_pay17 (k1_pay11 xs) wv) (k1_pay18 (k1_pay10 (k1_pay6 vec) k1_pay7 vw) (k1_pay11 xs) wv)
      (k1_pay19 (k1_pay11 xs) wv) (k1_pay20 (k1_pay10 (k1_pay6 vec) k1_pay7 vw)))
    (k1_pay22 (k1_pay17 (k1_pay11 xs) wv)) (k1_pay23 (k1_pay10 (k1_pay6 vec) k1_pay7 vw)) R1 T1 R2 T2

/-- The mixture of the values, as the call accumulates it head by head. -/
theorem mixed_at (r : Fin 2000) (w : Fin 28) :
    Ideal.div (k1_pay21 (F := Ideal) (k1_pay10 (F := Ideal) (k1_pay6 vec) k1_pay7 vw) (k1_pay17 (F := Ideal) (k1_pay11 (F := Ideal) xs) wv) (k1_pay18 (F := Ideal) (k1_pay10 (F := Ideal) (k1_pay6 vec) k1_pay7 vw) (k1_pay11 (F := Ideal) xs) wv)
        (k1_pay19 (F := Ideal) (k1_pay11 (F := Ideal) xs) wv) (k1_pay20 (F := Ideal) (k1_pay10 (F := Ideal) (k1_pay6 vec) k1_pay7 vw)) (ix2 r w)
      + k1_pay23 (F := Ideal) (k1_pay10 (F := Ideal) (k1_pay6 vec) k1_pay7 vw) (ix2 r w) * k1_pay22 (F := Ideal) (k1_pay17 (F := Ideal) (k1_pay11 (F := Ideal) xs) wv) (ix2 r w)
      + k1_pay10 (F := Ideal) (k1_pay6 vec) k1_pay7 vw (ix2 r 15) * k1_pay17 (F := Ideal) (k1_pay11 (F := Ideal) xs) wv (ix2 r ⟨420 + w, by omega⟩)) (Edge.lit 0x413504F3#32)
      = Edge.mixed (row vec r) (mat vw) (row xs r) (heads (n := 28) rfl wv) w := by
  pointwise [k1_pay21, k1_pay18, k1_pay19, k1_pay20, k1_pay22, k1_pay23]
  simp only [vhid_at, vtp_at]
  unfold Edge.mixed
  refine congrArg (Ideal.div · _) ?_
  refine Eq.trans ?_ (Edge.chain16 _)
  simp only [heads, row, Fin.isValue, Fin.coe_ofNat_eq_mod, Nat.reduceMod, Nat.reduceMul, Nat.zero_mod, zero_mul, zero_add, one_mul, Nat.one_mod]

theorem values_at (R1 : FVec Ideal S8x24 .f32) (T1 : FVec Ideal S3x24 .f32) (R2 : FVec Ideal S4x20 .f32) (T2 : FVec Ideal S5x20 .f32)
    (hR1 : ∀ (a : Fin 8) (j : Fin 24), R1 (ix2 a j) = if a = ⟨j / 3, by omega⟩ then 1 else 0)
    (hT1 : ∀ (a : Fin 3) (j : Fin 24), T1 (ix2 a j) = if a = ⟨j % 3, by omega⟩ then 1 else 0)
    (hR2 : ∀ (a : Fin 4) (j : Fin 20), R2 (ix2 a j) = if a = ⟨j / 5, by omega⟩ then 1 else 0)
    (hT2 : ∀ (a : Fin 5) (j : Fin 20), T2 (ix2 a j) = if a = ⟨j % 5, by omega⟩ then 1 else 0)
    (r : Fin 2000) (j : Fin 60) :
    values vec xs wv vw R1 T1 R2 T2 (ix2 r j) = Edge.value (row vec r) (row xs r) (mat vw) (heads (n := 28) rfl wv) j := by
  pointwise [values, k1_pay24]
  have hm := mixed_at vec xs wv vw r
  simp only [Edge.lit] at hm
  simp only [hm, hR1, hT1, hR2, hT2, sh1_at, sh2_at]
  simp only [Edge.sum_pick]
  rfl

theorem pmax_at (l : FVec Ideal S2000x1 .f32) :
    k1_pay25 (F := Ideal) l (ix3 0 0 0) = Finset.univ.sup fun r : Fin 2000 => (l (ix2 r 0) : EReal) := by
  pointwise [k1_pay25]
  refine (congrArg (fun b : EReal => Finset.fold max b _ _) Edge.lit_bot).trans ?_
  refine le_antisymm (Finset.sup_le fun x _ => ?_) (Finset.sup_le fun r _ => ?_)
  · exact Finset.le_sup (f := fun r : Fin 2000 => (l (ix2 r 0) : EReal)) (Finset.mem_univ x.1)
  · exact Finset.le_sup (f := fun x : Fin 2000 × _ => (l (ix2 x.1 0) : EReal)) (Finset.mem_univ (r, 0))

theorem query_at (x : FVec Ideal S2000x128 .f32) (w : FVec Ideal S128x32 .f32) (r : Fin 2000) (j : Fin 32) :
    k0_pay1 (F := Ideal) x w (ix2 r j) = Ideal.div (∑ d, x (ix2 r d) * w (ix2 d j)) (Edge.lit 0x413504F3#32) := by
  pointwise [k0_pay1]

end Cert.KernelIdeal.Pay

end
-- ==== Proof.KernelIdeal.NodeArr.lean ====
/- The nodes' query rows: what the first call leaves. -/
module

public import proofs.«01_k».proof.Proof.KernelIdeal.Whole
public import proofs.«01_k».proof.Proof.KernelIdeal.PayEdge
public import proofs.«01_k».proof.Proof.Net
public import Idealize.ShloMosaic.Lib.Pipeline.ValueKit
public import Idealize.ShloMosaic.Lib.Pointwise

@[expose] public section

set_option maxRecDepth 16384

noncomputable section

namespace Cert.KernelIdeal.NodeArr

open Cert.KernelIdeal Cert.KernelIdeal.Gen Cert.KernelIdeal.Own
open Idealize.ShloMosaic Idealize.ShloMosaic.TcCoe

variable (m : (ℓ : Loc nD τ sig) → Buf (Elt Ideal) ℓ) (c : Dev nD)

/-- The layer's arguments as the kernel is given them. -/
def net : Net where
  x n d := (m ((c : Thread nD τ).loc main_arg0) : FVec Ideal S10000x128 .f32) (ix2 n d)
  pos n a := (m ((c : Thread nD τ).loc main_arg1) : FVec Ideal S10000x3 .f32) (ix2 n a)
  src e := (m ((c : Thread nD τ).loc main_arg2) : IVec S2x160000 32) (ix2 0 e)
  dst e := (m ((c : Thread nD τ).loc main_arg2) : IVec S2x160000 32) (ix2 1 e)
  wq d j := (m ((c : Thread nD τ).loc main_arg3) : FVec Ideal S128x32 .f32) (ix2 d j)
  tpq j w := (m ((c : Thread nD τ).loc main_arg4) : FVec Ideal S32x16 .f32) (ix2 j w)
  sim j w := (m ((c : Thread nD τ).loc main_arg5) : FVec Ideal S32x16 .f32) (ix2 j w)
  kw1 j w := (m ((c : Thread nD τ).loc main_arg6) : FVec Ideal S32x16 .f32) (ix2 j w)
  kw2 h l := (m ((c : Thread nD τ).loc main_arg7) : FVec Ideal S16x2048 .f32) (ix2 h l)
  vw1 j w := (m ((c : Thread nD τ).loc main_arg8) : FVec Ideal S32x16 .f32) (ix2 j w)
  vw2 h l := (m ((c : Thread nD τ).loc main_arg9) : FVec Ideal S16x3584 .f32) (ix2 h l)

theorem idx : ∀ t : Fin cfg0.N, win0_0.index t = ![t.val, 0] ∧ win0_1.index t = ![0, 0] ∧ win0_2.index t = ![t.val, 0] :=
  (by decide +kernel : ∀ t : Fin grid0.N, _)

/-- The query rows as an array. -/
abbrev queries : FVec Ideal S10000x32 .f32 := fun i => (net m c).query (i 0) (i 1)

/-- The node at row `r` of block `t`. -/
abbrev rowOf (t : Fin cfg0.N) (r : Fin 2000) : Fin 10000 := ⟨t.val * 2000 + r.val, by have := lt_of_lt_of_eq t.isLt N_0; omega⟩

theorem iblk0 (t : Fin cfg0.N) (r : Fin 2000) (d : Fin 128) : K0.iblk (Whole.Ve0 m) c 0 t (ix2 r d) = (net m c).x (rowOf t r) d := by
  have e : (win0_0.blk t).view.emb (ix2 r d) = ix2 (rowOf t r) d := by blk_ext [idx t]
  exact congrArg (Whole.Ve0 m c main_arg0) e

theorem iblk1 (t : Fin cfg0.N) (d : Fin 128) (j : Fin 32) : K0.iblk (Whole.Ve0 m) c 1 t (ix2 d j) = (net m c).wq d j := by
  have e : (win0_1.blk t).view.emb (ix2 d j) = ix2 d j := by blk_ext [idx t]
  exact congrArg (Whole.Ve0 m c main_arg3) e

theorem node_arr : (Whole.dNode m c).arrAt 2 cfg0.N = queries m c := by
  refine (Whole.dNode m c).arrAt_eq_of_covers 2 _ (by decide +kernel) fun t hf y => ?_
  blk_simp
  rw [K0.after0_2]
  unfold K0.outsAt0
  frame_out
  obtain ⟨r, j, rfl⟩ : ∃ (r : Fin 2000) (j : Fin 32), y = ix2 r j := ⟨_, _, eq_ix2 y⟩
  refine (Pay.query_at (K0.iblk (Whole.Ve0 m) c 0 t) (K0.iblk (Whole.Ve0 m) c 1 t) r j).trans ?_
  have e : (win0_2.blk t).view.emb (ix2 r j) = ix2 (rowOf t r) j := by blk_ext [idx t]
  refine Eq.trans ?_ (congrArg (queries m c) e).symm
  simp only [iblk0, iblk1]
  rfl

end Cert.KernelIdeal.NodeArr

end
-- ==== Proof.KernelIdeal.HostIn.lean ====
/- The arrays that the edge call is given: rows gathered at the edges' words, and the weights laid out anew. -/
module

public import proofs.«01_k».proof.Proof.KernelIdeal.InRange
public import proofs.«01_k».proof.Proof.KernelIdeal.NodeArr
public import proofs.«01_k».proof.Proof.Rows
public import Idealize.ShloMosaic.Lib.Pointwise
public import Idealize.ShloMosaic.Lib.Claim

@[expose] public section

set_option maxRecDepth 16384

noncomputable section

namespace Cert.KernelIdeal.HostIn

open Cert.KernelIdeal Cert.KernelIdeal.Gen
open Idealize.ShloMosaic Idealize.ShloMosaic.TcCoe

/-- A word column after the wrap of negative indices. -/
abbrev wrapped (i : IVec S160000 32) : IVec S160000x1 32 :=
  broadcastInDim S160000x1 ![0] bcast_S160000_S160000x1_0 (select (cmpi .slt i (broadcastInDim S160000 ![] bcast_S_S160000 (constantI S_ 32 0#32)))
    (addi i (broadcastInDim S160000 ![] bcast_S_S160000 (constantI S_ 32 10000#32))) i)

theorem wrapped_at (i : IVec S160000 32) (e : Fin 160000) (h : (i (ix1 e)).toNat < 10000) : wrapped i (ix2 e 0) = i (ix1 e) := by
  pointwise [wrapped]
  exact Routing.wrap_of_lt _ _ (by omega)

/-- Which wrapped words name a row. -/
abbrev named (i : IVec S160000 32) : IVec S160000 1 :=
  Host.reduce IntOp.andi (andi (cmpi .sge (wrapped i) (broadcastInDim S160000x1 ![] bcast_S_S160000x1 (constantI S_ 32 0#32)))
    (cmpi .sle (wrapped i) (broadcastInDim S160000x1 ![0, 1] bcast_S1x1_S160000x1_0_1 (broadcastInDim S1x1 ![1] bcast_S1_S1x1_1 (constantI S1 32 9999#32)))))
    (constantI S_ 1 1#1) reducesTo_S160000x1_S160000_d1 h_S_

theorem named_at (i : IVec S160000 32) (h : ∀ e, (i (ix1 e)).toNat < 10000) (e : Fin 160000) : named i (ix1 e) = 1#1 := by
  refine Host.reduce_andi_one _ _ _ _ _ rfl fun y => ?_
  obtain ⟨k, l, rfl⟩ : ∃ (k : Fin 160000) (l : Fin 1), y = ix2 k l := ⟨_, _, eq_ix2 y⟩
  obtain rfl : l = 0 := Subsingleton.elim _ _
  have hw := wrapped_at i k (h k)
  have hl := h k
  generalize wrapped i = w at hw
  generalize i (ix1 k) = v at hw hl
  pointwise []
  rw [hw]
  have h0 : v.toInt = v.toNat := Rows.toInt_of_lt hl (by norm_num)
  have h1 : IntOp.cmpi .sge v 0#32 = 1#1 := by
    rw [show IntOp.cmpi .sge v 0#32 = BitVec.ofBool (decide ((0#32).toInt ≤ v.toInt)) from rfl, h0]
    simp
  have h2 : IntOp.cmpi .sle v 9999#32 = 1#1 := by
    have hle : v.toInt ≤ (9999#32).toInt := by
      rw [h0]
      show (v.toNat : Int) ≤ 9999
      omega
    show BitVec.ofBool (decide (v.toInt ≤ (9999#32).toInt)) = _
    rw [decide_eq_true hle]
    rfl
  rw [h1, h2]
  rfl

/-- The rows of a table at a column of words, with a fill where a word names none. -/
abbrev take3 (x : FVec Ideal S10000x3 .f32) (i : IVec S160000 32) : FVec Ideal S160000x3 .f32 :=
  select (broadcastInDim S160000x3 ![0] bcast_S160000_S160000x3_0 (named i))
    (Host.gather gather_S10000x3_S160000x1_S160000x3_1_0_n_n_0_1_13 x (wrapped i))
    (broadcastInDim S160000x3 ![] bcast_S_S160000x3 (constant S_ .f32 0x7FC00000#32))
abbrev take32 (x : FVec Ideal S10000x32 .f32) (i : IVec S160000 32) : FVec Ideal S160000x32 .f32 :=
  select (broadcastInDim S160000x32 ![0] bcast_S160000_S160000x32_0 (named i))
    (Host.gather gather_S10000x32_S160000x1_S160000x32_1_0_n_n_0_1_132 x (wrapped i))
    (broadcastInDim S160000x32 ![] bcast_S_S160000x32 (constant S_ .f32 0x7FC00000#32))
abbrev take128 (x : FVec Ideal S10000x128 .f32) (i : IVec S160000 32) : FVec Ideal S160000x128 .f32 :=
  select (broadcastInDim S160000x128 ![0] bcast_S160000_S160000x128_0 (named i))
    (Host.gather gather_S10000x128_S160000x1_S160000x128_1_0_n_n_0_1_1128 x (wrapped i))
    (broadcastInDim S160000x128 ![] bcast_S_S160000x128 (constant S_ .f32 0x7FC00000#32))

theorem take3_at (x : FVec Ideal S10000x3 .f32) (i : IVec S160000 32) (h : ∀ e, (i (ix1 e)).toNat < 10000) (e : Fin 160000) (a : Fin 3) :
    take3 x i (ix2 e a) = x (ix2 (Net.node (i (ix1 e))) a) := by
  have hn := named_at i h e
  have hw := wrapped_at i e (h e)
  have hg : Host.gather gather_S10000x3_S160000x1_S160000x3_1_0_n_n_0_1_13 x (wrapped i) (ix2 e a) = x (ix2 (Net.node (i (ix1 e))) a) := by
    refine (Rows.take_at _ (by norm_num) x (wrapped i) e a (by rw [hw]; exact h e)).trans ?_
    refine congrArg (fun n => x (ix2 n a)) (Fin.ext ?_)
    show (wrapped i (ix2 e 0)).toNat = _
    rw [hw, Net.node_eq (h e)]
  refine Eq.trans ?_ hg
  unfold take3
  generalize named i = t at hn ⊢
  generalize Host.gather _ _ _ = g
  pointwise []
  rw [hn]
  rfl

theorem take32_at (x : FVec Ideal S10000x32 .f32) (i : IVec S160000 32) (h : ∀ e, (i (ix1 e)).toNat < 10000) (e : Fin 160000) (a : Fin 32) :
    take32 x i (ix2 e a) = x (ix2 (Net.node (i (ix1 e))) a) := by
  have hn := named_at i h e
  have hw := wrapped_at i e (h e)
  have hg : Host.gather gather_S10000x32_S160000x1_S160000x32_1_0_n_n_0_1_132 x (wrapped i) (ix2 e a) = x (ix2 (Net.node (i (ix1 e))) a) := by
    refine (Rows.take_at _ (by norm_num) x (wrapped i) e a (by rw [hw]; exact h e)).trans ?_
    refine congrArg (fun n => x (ix2 n a)) (Fin.ext ?_)
    show (wrapped i (ix2 e 0)).toNat = _
    rw [hw, Net.node_eq (h e)]
  refine Eq.trans ?_ hg
  unfold take32
  generalize named i = t at hn ⊢
  generalize Host.gather _ _ _ = g
  pointwise []
  rw [hn]
  rfl

theorem take128_at (x : FVec Ideal S10000x128 .f32) (i : IVec S160000 32) (h : ∀ e, (i (ix1 e)).toNat < 10000) (e : Fin 160000) (a : Fin 128) :
    take128 x i (ix2 e a) = x (ix2 (Net.node (i (ix1 e))) a) := by
  have hn := named_at i h e
  have hw := wrapped_at i e (h e)
  have hg : Host.gather gather_S10000x128_S160000x1_S160000x128_1_0_n_n_0_1_1128 x (wrapped i) (ix2 e a) = x (ix2 (Net.node (i (ix1 e))) a) := by
    refine (Rows.take_at _ (by norm_num) x (wrapped i) e a (by rw [hw]; exact h e)).trans ?_
    refine congrArg (fun n => x (ix2 n a)) (Fin.ext ?_)
    show (wrapped i (ix2 e 0)).toNat = _
    rw [hw, Net.node_eq (h e)]
  refine Eq.trans ?_ hg
  unfold take128
  generalize named i = t at hn ⊢
  generalize Host.gather _ _ _ = g
  pointwise []
  rw [hn]
  rfl

variable (V : Valuation τ sig (Elt Ideal))

theorem v5_eq : StableHlo.after hostOps1 V (Proc.devRef .tc main_v5) = take128 (V (Proc.devRef .tc main_arg0)) (V (Proc.devRef .tc main_v1)) := by
  after_results
  simp only [StableHlo.TRef.ofBuf, StableHlo.TRef.toBuf, cast_cast, cast_eq]

theorem v6_eq : StableHlo.after hostOps1_1 V (Proc.devRef .tc main_v6) = take32 (V (Proc.devRef .tc main_v4)) (V (Proc.devRef .tc main_v3)) := by
  after_results
  simp only [StableHlo.TRef.ofBuf, StableHlo.TRef.toBuf, cast_cast, cast_eq]

theorem v7_eq : StableHlo.after hostOps1_2 V (Proc.devRef .tc main_v7) = take3 (V (Proc.devRef .tc main_arg1)) (V (Proc.devRef .tc main_v3)) := by
  after_results
  simp only [StableHlo.TRef.ofBuf, StableHlo.TRef.toBuf, cast_cast, cast_eq]

theorem v8_eq : StableHlo.after hostOps1_3 V (Proc.devRef .tc main_v8) = take3 (V (Proc.devRef .tc main_arg1)) (V (Proc.devRef .tc main_v1)) := by
  after_results
  simp only [StableHlo.TRef.ofBuf, StableHlo.TRef.toBuf, cast_cast, cast_eq]

theorem v9_eq : StableHlo.after hostOps1_4 V (Proc.devRef .tc main_v9) = subf (F := Ideal) (s := S160000x3) (φ := .f32) (V (Proc.devRef .tc main_v7)) (V (Proc.devRef .tc main_v8)) := by
  after_results

/-- The second weights laid out by head. -/
abbrev laid16 (w : FVec Ideal S16x2048 .f32) : FVec Ideal S128x256 .f32 :=
  shapeCast S128x256 (transpose S128x16x16 [1, 0, 2] (Host.divf (F := Ideal) (shapeCast S16x128x16 w shapeCasts_S16x2048_S16x128x16)
    (broadcastInDim S16x128x16 ![] bcast_S_S16x128x16 (constant S_ .f32 0x40800000#32))) transposes_S16x128x16_S128x16x16_1_0_2) shapeCasts_S128x16x16_S128x256
abbrev laid28 (w : FVec Ideal S16x3584 .f32) : FVec Ideal S128x448 .f32 :=
  shapeCast S128x448 (transpose S128x16x28 [1, 0, 2] (Host.divf (F := Ideal) (shapeCast S16x128x28 w shapeCasts_S16x3584_S16x128x28)
    (broadcastInDim S16x128x28 ![] bcast_S_S16x128x28 (constant S_ .f32 0x40800000#32))) transposes_S16x128x28_S128x16x28_1_0_2) shapeCasts_S128x16x28_S128x448

theorem v14_eq : StableHlo.after hostOps1_4 V (Proc.devRef .tc main_v14) = laid16 (V (Proc.devRef .tc main_arg7)) := by
  after_results
  rfl

theorem v19_eq : StableHlo.after hostOps1_4 V (Proc.devRef .tc main_v19) = laid28 (V (Proc.devRef .tc main_arg9)) := by
  after_results
  rfl

theorem laid16_at (w : FVec Ideal S16x2048 .f32) (h : Fin 16) (d : Fin 128) (k : Fin 16) :
    laid16 w (ix2 d ⟨h * 16 + k, by omega⟩) = Ideal.div (w (ix2 h ⟨d * 16 + k, by omega⟩)) (Edge.lit 0x40800000#32) := by
  pointwise [laid16]

theorem laid28_at (w : FVec Ideal S16x3584 .f32) (h : Fin 16) (d : Fin 128) (k : Fin 28) :
    laid28 w (ix2 d ⟨h * 28 + k, by omega⟩) = Ideal.div (w (ix2 h ⟨d * 28 + k, by omega⟩)) (Edge.lit 0x40800000#32) := by
  pointwise [laid28]

variable (m : (ℓ : Loc nD τ sig) → Buf (Elt Ideal) ℓ) (outs : Outs (F := Ideal)) (c : Dev nD)

theorem src_at (e : Fin 160000) : (V1 m c (Proc.devRef .tc main_v1) : IVec S160000 32) (ix1 e) = (NodeArr.net m c).src e := by
  have h : V1 m c (Proc.devRef .tc main_v1) = shapeCast S160000 (extractStridedSlice S1x160000 ![0, 0] (Whole.edges m c) slices_S2x160000_S1x160000_0_0) shapeCasts_S1x160000_S160000 := rfl
  rw [h]
  pointwise []
  rfl

theorem dst_at (e : Fin 160000) : (V1 m c (Proc.devRef .tc main_v3) : IVec S160000 32) (ix1 e) = (NodeArr.net m c).dst e := by
  have h : V1 m c (Proc.devRef .tc main_v3) = shapeCast S160000 (extractStridedSlice S1x160000 ![1, 0] (Whole.edges m c) slices_S2x160000_S1x160000_1_0) shapeCasts_S1x160000_S160000 := rfl
  rw [h]
  pointwise []
  rfl

/-- The words of the edges name nodes. -/
theorem src_lt (h : Whole.EdgesOk m) (e : Fin 160000) : ((NodeArr.net m c).src e).toNat < 10000 := h c (ix2 0 e)
theorem dst_lt (h : Whole.EdgesOk m) (e : Fin 160000) : ((NodeArr.net m c).dst e).toNat < 10000 := h c (ix2 1 e)

/-- The edge call's rows of features. -/
theorem xs_at (h : Whole.EdgesOk m) (e : Fin 160000) (d : Fin 128) :
    (V7 m outs c (Proc.devRef .tc main_v5) : FVec Ideal S160000x128 .f32) (ix2 e d) = (NodeArr.net m c).x (Net.node ((NodeArr.net m c).src e)) d := by
  rw [V7_of m outs c main_v5 (by decide), V6_of m outs c main_v5 (by decide), V5_of m outs c main_v5 (by decide), V4_of m outs c main_v5 (by decide)]
  refine (congrFun (v5_eq (V2 m outs c)) _).trans ?_
  rw [V2_of m outs c main_v1 (by decide), V2_of m outs c main_arg0 (by decide), V1_of m c main_arg0 (by decide)]
  refine (take128_at _ _ (fun e => by rw [src_at]; exact src_lt m c h e) e d).trans ?_
  rw [src_at]
  rfl

/-- Its rows of queries. -/
theorem qd_at (h : Whole.EdgesOk m) (ho : outs 2 main_v4 c = NodeArr.queries m c) (e : Fin 160000) (j : Fin 32) :
    (V7 m outs c (Proc.devRef .tc main_v6) : FVec Ideal S160000x32 .f32) (ix2 e j) = (NodeArr.net m c).query (Net.node ((NodeArr.net m c).dst e)) j := by
  rw [V7_of m outs c main_v6 (by decide), V6_of m outs c main_v6 (by decide), V5_of m outs c main_v6 (by decide)]
  refine (congrFun (v6_eq (V3 m outs c)) _).trans ?_
  rw [V3_of m outs c main_v3 (by decide), V3_of m outs c main_v4 (by decide), V2_of m outs c main_v3 (by decide)]
  rw [show V2 m outs c (Proc.devRef .tc main_v4) = NodeArr.queries m c from (Function.update_self _ _ _).trans ho]
  refine (take32_at _ _ (fun e => by rw [dst_at]; exact dst_lt m c h e) e j).trans ?_
  rw [dst_at]
  rfl

/-- Its vectors. -/
theorem vec_at (h : Whole.EdgesOk m) (e : Fin 160000) (a : Fin 3) :
    (V7 m outs c (Proc.devRef .tc main_v9) : FVec Ideal S160000x3 .f32) (ix2 e a) = (NodeArr.net m c).vec e a := by
  refine (congrFun (v9_eq (V6 m outs c)) _).trans ?_
  rw [V6_of m outs c main_v7 (by decide)]
  have h7 := congrFun (v7_eq (V4 m outs c)) (ix2 e a)
  have h8 := congrFun (v8_eq (V5 m outs c)) (ix2 e a)
  rw [V4_of m outs c main_arg1 (by decide), V3_of m outs c main_arg1 (by decide), V2_of m outs c main_arg1 (by decide), V1_of m c main_arg1 (by decide),
    V4_of m outs c main_v3 (by decide), V3_of m outs c main_v3 (by decide), V2_of m outs c main_v3 (by decide)] at h7
  rw [V5_of m outs c main_arg1 (by decide), V4_of m outs c main_arg1 (by decide), V3_of m outs c main_arg1 (by decide), V2_of m outs c main_arg1 (by decide), V1_of m c main_arg1 (by decide),
    V5_of m outs c main_v1 (by decide), V4_of m outs c main_v1 (by decide), V3_of m outs c main_v1 (by decide), V2_of m outs c main_v1 (by decide)] at h8
  refine (congrArg₂ (fun u v : EReal => u - v) (h7.trans (take3_at _ _ (fun e => by rw [dst_at]; exact dst_lt m c h e) e a))
    (h8.trans (take3_at _ _ (fun e => by rw [src_at]; exact src_lt m c h e) e a))).trans ?_
  rw [dst_at, src_at]
  rfl

/-- What none of the stretches before the edge call writes. -/
theorem V7_arg {r : Ref sig .tc} (h4 : r ∉ hostOps1_4_W) (h3 : r ∉ hostOps1_3_W) (h2 : r ∉ hostOps1_2_W) (h1 : r ∉ hostOps1_1_W) (h0 : r ∉ hostOps1_W)
    (hq : r ∉ ([main_v4] : List (Ref sig .tc))) : V7 m outs c r = V1 m c r := by
  rw [V7_of m outs c r h4, V6_of m outs c r h3, V5_of m outs c r h2, V4_of m outs c r h1, V3_of m outs c r h0, V2_of m outs c r hq]

end Cert.KernelIdeal.HostIn

end
-- ==== Proof.KernelIdeal.EdgeArr.lean ====
/- The edges' logits, values and per-block maxima: what the second call leaves. -/
module

public import proofs.«01_k».proof.Proof.KernelIdeal.HostIn
public import Idealize.ShloMosaic.Lib.Pipeline.ValueKit
public import Idealize.ShloMosaic.Lib.IdealHost

@[expose] public section

set_option maxRecDepth 16384

noncomputable section

namespace Cert.KernelIdeal.EdgeArr

open Cert.KernelIdeal Cert.KernelIdeal.Gen Cert.KernelIdeal.Own
open Idealize.ShloMosaic Idealize.ShloMosaic.TcCoe

theorem idx : ∀ t : Fin cfg1.N, win1_0.index t = ![t.val, 0] ∧ win1_1.index t = ![t.val, 0] ∧ win1_2.index t = ![t.val, 0]
    ∧ win1_3.index t = ![0, 0] ∧ win1_4.index t = ![0, 0] ∧ win1_5.index t = ![0, 0] ∧ win1_6.index t = ![0, 0] ∧ win1_7.index t = ![0, 0]
    ∧ win1_8.index t = ![0, 0] ∧ win1_9.index t = ![0, 0] ∧ win1_10.index t = ![0, 0] ∧ win1_11.index t = ![0, 0] ∧ win1_12.index t = ![0, 0]
    ∧ win1_13.index t = ![t.val, 0] ∧ win1_14.index t = ![t.val, 0] ∧ win1_15.index t = ![t.val, 0, 0] :=
  (by decide +kernel : ∀ t : Fin grid1.N, _)

/-- The edge at row `r` of block `t`. -/
abbrev edgeOf (t : Fin cfg1.N) (r : Fin 2000) : Fin 160000 := ⟨t.val * 2000 + r.val, by have := lt_of_lt_of_eq t.isLt N_1; omega⟩

variable (m : (ℓ : Loc nD τ sig) → Buf (Elt Ideal) ℓ) (c : Dev nD)

/-- The edge call's blocks. -/
abbrev ib (w : Fin cfg1.W) (t : Fin cfg1.N) := K1.iblk (Whole.Ve1 m (Whole.outsA m)) c w t

theorem queries_at : Whole.outsA m 2 main_v4 c = NodeArr.queries m c := (Whole.outsA_node m 2 c).trans (NodeArr.node_arr m c)

theorem ib0 (h : Whole.EdgesOk m) (t : Fin cfg1.N) (r : Fin 2000) (a : Fin 3) : ib m c 0 t (ix2 r a) = (NodeArr.net m c).vec (edgeOf t r) a := by
  have e : (win1_0.blk t).view.emb (ix2 r a) = ix2 (edgeOf t r) a := by blk_ext [idx t]
  exact (congrArg (Whole.Ve1 m (Whole.outsA m) c main_v9) e).trans (HostIn.vec_at m (Whole.outsA m) c h (edgeOf t r) a)

theorem ib1 (h : Whole.EdgesOk m) (t : Fin cfg1.N) (r : Fin 2000) (d : Fin 128) :
    ib m c 1 t (ix2 r d) = (NodeArr.net m c).x (Net.node ((NodeArr.net m c).src (edgeOf t r))) d := by
  have e : (win1_1.blk t).view.emb (ix2 r d) = ix2 (edgeOf t r) d := by blk_ext [idx t]
  exact (congrArg (Whole.Ve1 m (Whole.outsA m) c main_v5) e).trans (HostIn.xs_at m (Whole.outsA m) c h (edgeOf t r) d)

theorem ib2 (h : Whole.EdgesOk m) (t : Fin cfg1.N) (r : Fin 2000) (j : Fin 32) :
    ib m c 2 t (ix2 r j) = (NodeArr.net m c).query (Net.node ((NodeArr.net m c).dst (edgeOf t r))) j := by
  have e : (win1_2.blk t).view.emb (ix2 r j) = ix2 (edgeOf t r) j := by blk_ext [idx t]
  exact (congrArg (Whole.Ve1 m (Whole.outsA m) c main_v6) e).trans (HostIn.qd_at m (Whole.outsA m) c h (queries_at m c) (edgeOf t r) j)

theorem ib3 (t : Fin cfg1.N) (h : Fin 16) (d : Fin 128) (k : Fin 16) : Pay.heads (n := 16) rfl (ib m c 3 t) h d k = (NodeArr.net m c).kT h d k := by
  have e : (win1_3.blk t).view.emb (ix2 d (⟨h * 16 + k, by omega⟩ : Fin 256)) = ix2 d (⟨h * 16 + k, by omega⟩ : Fin 256) := by blk_ext [idx t]
  refine (congrArg (Whole.Ve1 m (Whole.outsA m) c main_v14) e).trans ?_
  refine (congrFun (HostIn.v14_eq (V6 m (Whole.outsA m) c)) _).trans ((HostIn.laid16_at _ h d k).trans ?_)
  rw [V6_of m _ c main_arg7 (by decide), V5_of m _ c main_arg7 (by decide), V4_of m _ c main_arg7 (by decide), V3_of m _ c main_arg7 (by decide),
    V2_of m _ c main_arg7 (by decide), V1_of m c main_arg7 (by decide)]
  rfl

theorem ib4 (t : Fin cfg1.N) (h : Fin 16) (d : Fin 128) (k : Fin 28) : Pay.heads (n := 28) rfl (ib m c 4 t) h d k = (NodeArr.net m c).vT h d k := by
  have e : (win1_4.blk t).view.emb (ix2 d (⟨h * 28 + k, by omega⟩ : Fin 448)) = ix2 d (⟨h * 28 + k, by omega⟩ : Fin 448) := by blk_ext [idx t]
  refine (congrArg (Whole.Ve1 m (Whole.outsA m) c main_v19) e).trans ?_
  refine (congrFun (HostIn.v19_eq (V6 m (Whole.outsA m) c)) _).trans ((HostIn.laid28_at _ h d k).trans ?_)
  rw [V6_of m _ c main_arg9 (by decide), V5_of m _ c main_arg9 (by decide), V4_of m _ c main_arg9 (by decide), V3_of m _ c main_arg9 (by decide),
    V2_of m _ c main_arg9 (by decide), V1_of m c main_arg9 (by decide)]
  rfl

theorem ib5 (t : Fin cfg1.N) (j : Fin 32) (w : Fin 16) : ib m c 5 t (ix2 j w) = (NodeArr.net m c).kw1 j w := by
  have e : (win1_5.blk t).view.emb (ix2 j w) = ix2 j w := by blk_ext [idx t]
  refine (congrArg (Whole.Ve1 m (Whole.outsA m) c main_arg6) e).trans ?_
  exact congrFun ((HostIn.V7_arg m _ c (by decide) (by decide) (by decide) (by decide) (by decide) (by decide)).trans (V1_of m c main_arg6 (by decide))) _

theorem ib6 (t : Fin cfg1.N) (j : Fin 32) (w : Fin 16) : ib m c 6 t (ix2 j w) = (NodeArr.net m c).vw1 j w := by
  have e : (win1_6.blk t).view.emb (ix2 j w) = ix2 j w := by blk_ext [idx t]
  refine (congrArg (Whole.Ve1 m (Whole.outsA m) c main_arg8) e).trans ?_
  exact congrFun ((HostIn.V7_arg m _ c (by decide) (by decide) (by decide) (by decide) (by decide) (by decide)).trans (V1_of m c main_arg8 (by decide))) _

theorem ib7 (t : Fin cfg1.N) (j : Fin 32) (w : Fin 16) : ib m c 7 t (ix2 j w) = (NodeArr.net m c).tpq j w := by
  have e : (win1_7.blk t).view.emb (ix2 j w) = ix2 j w := by blk_ext [idx t]
  refine (congrArg (Whole.Ve1 m (Whole.outsA m) c main_arg4) e).trans ?_
  exact congrFun ((HostIn.V7_arg m _ c (by decide) (by decide) (by decide) (by decide) (by decide) (by decide)).trans (V1_of m c main_arg4 (by decide))) _

theorem ib8 (t : Fin cfg1.N) (j : Fin 32) (w : Fin 16) : ib m c 8 t (ix2 j w) = (NodeArr.net m c).sim j w := by
  have e : (win1_8.blk t).view.emb (ix2 j w) = ix2 j w := by blk_ext [idx t]
  refine (congrArg (Whole.Ve1 m (Whole.outsA m) c main_arg5) e).trans ?_
  exact congrFun ((HostIn.V7_arg m _ c (by decide) (by decide) (by decide) (by decide) (by decide) (by decide)).trans (V1_of m c main_arg5 (by decide))) _

/-- The words of one and of nothing. -/
theorem one_or_zero (p : Prop) [Decidable p] : Ideal.ofBits .f32 (if p then 0x3F800000#32 else 0#32) = if p then (1 : EReal) else 0 := by
  split
  · exact Ideal.ofBits_one_f32
  · simp [Ideal.ofBits, Ideal.ieee]

theorem ib9 (t : Fin cfg1.N) (a : Fin 8) (j : Fin 24) : ib m c 9 t (ix2 a j) = if a = ⟨j / 3, by omega⟩ then (1 : EReal) else 0 := by
  have e : (win1_9.blk t).view.emb (ix2 a j) = ix2 a j := by blk_ext [idx t]
  refine (congrArg (Whole.Ve1 m (Whole.outsA m) c main_cst) e).trans ?_
  refine (congrFun (HostIn.V7_arg m _ c (by decide) (by decide) (by decide) (by decide) (by decide) (by decide)) _).trans ?_
  refine Eq.trans ?_ (one_or_zero _)
  have hl : ∀ (a : Fin 8) (j : Fin 24), lit0 (S8x24.rowMajor (ix2 a j)) = if a = ⟨j / 3, by omega⟩ then 0x3F800000#32 else 0#32 := by decide +kernel
  rw [← hl a j]
  rfl

theorem ib10 (t : Fin cfg1.N) (a : Fin 3) (j : Fin 24) : ib m c 10 t (ix2 a j) = if a = ⟨j % 3, by omega⟩ then (1 : EReal) else 0 := by
  have e : (win1_10.blk t).view.emb (ix2 a j) = ix2 a j := by blk_ext [idx t]
  refine (congrArg (Whole.Ve1 m (Whole.outsA m) c main_cst_0) e).trans ?_
  refine (congrFun (HostIn.V7_arg m _ c (by decide) (by decide) (by decide) (by decide) (by decide) (by decide)) _).trans ?_
  refine Eq.trans ?_ (one_or_zero _)
  have hl : ∀ (a : Fin 3) (j : Fin 24), lit1 (S3x24.rowMajor (ix2 a j)) = if a = ⟨j % 3, by omega⟩ then 0x3F800000#32 else 0#32 := by decide +kernel
  rw [← hl a j]
  rfl

theorem ib11 (t : Fin cfg1.N) (a : Fin 4) (j : Fin 20) : ib m c 11 t (ix2 a j) = if a = ⟨j / 5, by omega⟩ then (1 : EReal) else 0 := by
  have e : (win1_11.blk t).view.emb (ix2 a j) = ix2 a j := by blk_ext [idx t]
  refine (congrArg (Whole.Ve1 m (Whole.outsA m) c main_cst_1) e).trans ?_
  refine (congrFun (HostIn.V7_arg m _ c (by decide) (by decide) (by decide) (by decide) (by decide) (by decide)) _).trans ?_
  refine Eq.trans ?_ (one_or_zero _)
  have hl : ∀ (a : Fin 4) (j : Fin 20), lit2 (S4x20.rowMajor (ix2 a j)) = if a = ⟨j / 5, by omega⟩ then 0x3F800000#32 else 0#32 := by decide +kernel
  rw [← hl a j]
  rfl

theorem ib12 (t : Fin cfg1.N) (a : Fin 5) (j : Fin 20) : ib m c 12 t (ix2 a j) = if a = ⟨j % 5, by omega⟩ then (1 : EReal) else 0 := by
  have e : (win1_12.blk t).view.emb (ix2 a j) = ix2 a j := by blk_ext [idx t]
  refine (congrArg (Whole.Ve1 m (Whole.outsA m) c main_cst_2) e).trans ?_
  refine (congrFun (HostIn.V7_arg m _ c (by decide) (by decide) (by decide) (by decide) (by decide) (by decide)) _).trans ?_
  refine Eq.trans ?_ (one_or_zero _)
  have hl : ∀ (a : Fin 5) (j : Fin 20), lit3 (S5x20.rowMajor (ix2 a j)) = if a = ⟨j % 5, by omega⟩ then 0x3F800000#32 else 0#32 := by decide +kernel
  rw [← hl a j]
  rfl

/-- A block's logits. -/
theorem logits_blk (h : Whole.EdgesOk m) (t : Fin cfg1.N) (r : Fin 2000) :
    Pay.logits (ib m c 0 t) (ib m c 1 t) (ib m c 2 t) (ib m c 3 t) (ib m c 5 t) (ib m c 7 t) (ib m c 8 t) (ix2 r 0) = (NodeArr.net m c).logit (edgeOf t r) := by
  refine (Pay.logits_at (ib m c 0 t) (ib m c 1 t) (ib m c 2 t) (ib m c 3 t) (ib m c 5 t) (ib m c 7 t) (ib m c 8 t) r).trans ?_
  rw [show Pay.row (ib m c 0 t) r = _ from funext fun a => ib0 m c h t r a, show Pay.row (ib m c 1 t) r = _ from funext fun a => ib1 m c h t r a,
    show Pay.row (ib m c 2 t) r = _ from funext fun a => ib2 m c h t r a, show Pay.mat (ib m c 5 t) = _ from funext fun a => funext fun b => ib5 m c t a b,
    show Pay.mat (ib m c 7 t) = _ from funext fun a => funext fun b => ib7 m c t a b, show Pay.mat (ib m c 8 t) = _ from funext fun a => funext fun b => ib8 m c t a b,
    show Pay.heads (n := 16) rfl (ib m c 3 t) = _ from funext fun a => funext fun b => funext fun k => ib3 m c t a b k]
  rfl

/-- A block's values. -/
theorem values_blk (h : Whole.EdgesOk m) (t : Fin cfg1.N) (r : Fin 2000) (j : Fin 60) :
    Pay.values (ib m c 0 t) (ib m c 1 t) (ib m c 4 t) (ib m c 6 t) (ib m c 9 t) (ib m c 10 t) (ib m c 11 t) (ib m c 12 t) (ix2 r j) = (NodeArr.net m c).value (edgeOf t r) j := by
  refine (Pay.values_at (ib m c 0 t) (ib m c 1 t) (ib m c 4 t) (ib m c 6 t) (ib m c 9 t) (ib m c 10 t) (ib m c 11 t) (ib m c 12 t)
    (ib9 m c t) (ib10 m c t) (ib11 m c t) (ib12 m c t) r j).trans ?_
  rw [show Pay.row (ib m c 0 t) r = _ from funext fun a => ib0 m c h t r a, show Pay.row (ib m c 1 t) r = _ from funext fun a => ib1 m c h t r a,
    show Pay.mat (ib m c 6 t) = _ from funext fun a => funext fun b => ib6 m c t a b,
    show Pay.heads (n := 28) rfl (ib m c 4 t) = _ from funext fun a => funext fun b => funext fun k => ib4 m c t a b k]
  rfl

end Cert.KernelIdeal.EdgeArr

end
-- ==== Proof.KernelIdeal.EdgeOut.lean ====
/- The second call's arrays. -/
module

public import proofs.«01_k».proof.Proof.KernelIdeal.EdgeArr

@[expose] public section

set_option maxRecDepth 16384

noncomputable section

namespace Cert.KernelIdeal.EdgeArr

open Cert.KernelIdeal Cert.KernelIdeal.Gen Cert.KernelIdeal.Own
open Idealize.ShloMosaic Idealize.ShloMosaic.TcCoe

variable (m : (ℓ : Loc nD τ sig) → Buf (Elt Ideal) ℓ) (c : Dev nD)

/-- The logits as an array. -/
abbrev logitsA : FVec Ideal S160000x1 .f32 := fun i => (NodeArr.net m c).logit (i 0)
/-- The values. -/
abbrev valuesA : FVec Ideal S160000x60 .f32 := fun i => (NodeArr.net m c).value (i 0) (i 1)
/-- The largest logit of each block. -/
abbrev maxA : FVec Ideal S80x1x1 .f32 := fun i =>
  Finset.univ.sup fun r : Fin 2000 => (NodeArr.net m c).logit ⟨(i 0).val * 2000 + r.val, by have : (i 0).val < 80 := (i 0).isLt; omega⟩

theorem logits_arr (h : Whole.EdgesOk m) : (Whole.dEdge m (Whole.outsA m) c).arrAt 13 cfg1.N = logitsA m c := by
  refine (Whole.dEdge m (Whole.outsA m) c).arrAt_eq_of_covers 13 _ (by decide +kernel) fun t hf y => ?_
  blk_simp
  rw [K1.after1_13]
  unfold K1.outsAt1
  frame_out
  obtain ⟨r, l, rfl⟩ : ∃ (r : Fin 2000) (l : Fin 1), y = ix2 r l := ⟨_, _, eq_ix2 y⟩
  obtain rfl : l = 0 := Subsingleton.elim _ _
  have e : (win1_13.blk t).view.emb (ix2 r 0) = ix2 (edgeOf t r) 0 := by blk_ext [idx t]
  refine Eq.trans ?_ (congrArg (logitsA m c) e).symm
  exact logits_blk m c h t r

theorem values_arr (h : Whole.EdgesOk m) : (Whole.dEdge m (Whole.outsA m) c).arrAt 14 cfg1.N = valuesA m c := by
  refine (Whole.dEdge m (Whole.outsA m) c).arrAt_eq_of_covers 14 _ (by decide +kernel) fun t hf y => ?_
  blk_simp
  rw [K1.after1_14]
  unfold K1.outsAt1
  frame_out
  obtain ⟨r, j, rfl⟩ : ∃ (r : Fin 2000) (l : Fin 60), y = ix2 r l := ⟨_, _, eq_ix2 y⟩
  have e : (win1_14.blk t).view.emb (ix2 r j) = ix2 (edgeOf t r) j := by blk_ext [idx t]
  refine Eq.trans ?_ (congrArg (valuesA m c) e).symm
  exact values_blk m c h t r j

set_option maxHeartbeats 2000000 in
theorem max_arr (h : Whole.EdgesOk m) : (Whole.dEdge m (Whole.outsA m) c).arrAt 15 cfg1.N = maxA m c := by
  refine (Whole.dEdge m (Whole.outsA m) c).arrAt_eq_of_covers 15 _ (by decide +kernel) fun t hf y => ?_
  blk_simp
  rw [K1.after1_15]
  unfold K1.outsAt1
  frame_out
  obtain ⟨a, b, d, rfl⟩ : ∃ (a b d : Fin 1), y = ix3 a b d := ⟨_, _, _, eq_ix3 y⟩
  obtain rfl : a = 0 := Subsingleton.elim _ _
  obtain rfl : b = 0 := Subsingleton.elim _ _
  obtain rfl : d = 0 := Subsingleton.elim _ _
  have ht := lt_of_lt_of_eq t.isLt N_1
  have e : (win1_15.blk t).view.emb (ix3 0 0 0) = ix3 (⟨t.val, ht⟩ : Fin 80) 0 0 := by blk_ext [idx t]
  refine Eq.trans ?_ (congrArg (maxA m c) e).symm
  refine (Pay.pmax_at (Pay.logits (ib m c 0 t) (ib m c 1 t) (ib m c 2 t) (ib m c 3 t) (ib m c 5 t) (ib m c 7 t) (ib m c 8 t))).trans ?_
  exact Finset.sup_congr rfl fun r _ => logits_blk m c h t r

end Cert.KernelIdeal.EdgeArr

end
-- ==== Proof.KernelIdeal.ScatTrip.lean ====
module

public import proofs.«01_k».proof.Proof.KernelIdeal.ScatDat
public import proofs.«01_k».proof.Proof.Edge
public import Idealize.ShloMosaic.Lib.Pipeline.ValueKit
public import Idealize.ShloMosaic.Lib.Pointwise
public import Idealize.ShloMosaic.Lib.WritesUnit

/-!
# One trip of the row loop, and all of them

Every trip adds four rows of the block into the accumulator, each into its own lane, at the row that the edge's
destination names. Read at one place, the accumulator after the trips is what it was plus the sum over the rows
that were added there.
-/

@[expose] public section

set_option maxRecDepth 16384

noncomputable section

namespace Cert.KernelIdeal.ScatVal

open Cert.KernelIdeal Cert.KernelIdeal.Gen
open Idealize.ShloMosaic Idealize.ShloMosaic.TcCoe
open Idealize.SL Idealize.SL.RA

/-- The sum that one store writes back: the found row plus the row of the block. -/
theorem pay_at (v : FVec Ideal S1x1x64 .f32) (r : FVec Ideal S1x64 .f32) (a b : Fin 1) (j : Fin 64) :
    k2_pay6 (F := Ideal) v r (ix3 a b j) = (v (ix3 0 0 j) : EReal) + r (ix2 0 j) := by
  pointwise [k2_pay6]

/-- A store of "found row plus a row", read back at any place. -/
theorem store_at (v : View sig .tc .vmem S4x10000x64 .f32) (f : BufTy.Contents (Elt Ideal) v.ty)
    (L : List (View.Piece (Elt Ideal) S4x10000x64 .f32)) (off : Fin 3 → ℕ) (inb : ∀ a, off a + S1x1x64.size a ≤ S4x10000x64.size a)
    (row : FVec Ideal S1x64 .f32) (p : FVec Ideal S1x1x64 .f32)
    (hp : p = k2_pay6 (F := Ideal) (v.readAt (Elt Ideal) (Rect.unit (s := S4x10000x64) off S1x1x64.size inb).toLoadRect (v.writes (Elt Ideal) f L)) row)
    (l₀ n₀ : ℕ) (ho : off = ![l₀, n₀, 0]) (l : Fin 4) (n : Fin 10000) (j : Fin 64) :
    (v.read (Elt Ideal) (v.writes (Elt Ideal) f (⟨Rect.unit (s := S4x10000x64) off S1x1x64.size inb, p⟩ :: L)) (ix3 l n j) : EReal)
      = (v.read (Elt Ideal) (v.writes (Elt Ideal) f L) (ix3 l n j) : EReal) + if l.val = l₀ ∧ n.val = n₀ then (row (ix2 0 j) : EReal) else 0 := by
  by_cases h : l.val = l₀ ∧ n.val = n₀
  · rw [if_pos h]
    have hx : ∀ a, ((ix3 l n j : S4x10000x64.Idx) a).val = (![l₀, n₀, 0] : Fin 3 → ℕ) a + ((ix3 0 0 j : S1x1x64.Idx) a).val := by
      intro a
      fin_cases a
      · exact h.1
      · exact h.2
      · exact (Nat.zero_add _).symm
    refine (View.read_writes_cons_unit_of_mem v f inb p L (ix3 l n j) (ix3 0 0 j) ho hx).trans ?_
    rw [hp, pay_at]
    congr 1
    rw [View.readAt_apply]
    refine congrArg (v.read (Elt Ideal) (v.writes (Elt Ideal) f L)) ?_
    funext a
    refine Fin.ext ?_
    refine Eq.trans ?_ (hx a).symm
    subst ho
    exact congrArg (_ + ·) (Nat.one_mul _)
  · rw [if_neg h, add_zero]
    rcases not_and_or.mp h with h | h
    · exact View.read_writes_cons_unit_of_not_mem v f inb p L (ix3 l n j) ho 0 (by show l.val < l₀ ∨ l₀ + 1 ≤ l.val; omega)
    · exact View.read_writes_cons_unit_of_not_mem v f inb p L (ix3 l n j) ho 1 (by show n.val < n₀ ∨ n₀ + 1 ≤ n.val; omega)

theorem off2 (w : BitVec 32) : k2_off2 w = ![0, w.toNat, 0] := rfl
theorem off5 (w : BitVec 32) : k2_off5 w = ![1, w.toNat, 0] := rfl
theorem off8 (w : BitVec 32) : k2_off8 w = ![2, w.toNat, 0] := rfl
theorem off11 (w : BitVec 32) : k2_off11 w = ![3, w.toNat, 0] := rfl

theorem trips_eq : k2_t1_loop.trips = 500 := by decide

/-- Edge `4k + q` of a block: lane `q` of trip `k`. -/
def lane (k : ℕ) (hk : k < 500) (q : Fin 4) : Fin 2000 := ⟨4 * k + q.val, by omega⟩

/-- One row of the block's rows, read from the scratch that holds them. -/
theorem row_read (v : View sig .tc .vmem S2000x64 .f32) (X : BufTy.Contents (Elt Ideal) v.ty) (off : Fin 2 → ℕ)
    (inb : ∀ a, off a + S1x64.size a ≤ S2000x64.size a) (r : Fin 2000) (ho : off = ![r.val, 0]) (j : Fin 64) :
    v.readAt (Elt Ideal) (Rect.unit (s := S2000x64) off S1x64.size inb).toLoadRect X (ix2 0 j) = v.read (Elt Ideal) X (ix2 r j) := by
  subst ho
  rw [View.readAt_apply]
  refine congrArg (v.read (Elt Ideal) X) (funext fun a => Fin.ext ?_)
  fin_cases a
  · rfl
  · show 0 + 1 * j.val = j.val; omega

/-- One word of the block's destinations. -/
theorem word_read (v : View sig .tc .smem S1x1x2000 .i32) (X : BufTy.Contents (Elt Ideal) v.ty) (off : Fin 3 → ℕ)
    (inb : ∀ a, off a + S1x1x1.size a ≤ S1x1x2000.size a) (r : Fin 2000) (ho : off = ![0, 0, r.val]) (y : S1x1x1.Idx) :
    v.readAt (Elt Ideal) (Rect.unit (s := S1x1x2000) off S1x1x1.size inb).toLoadRect X y = v.read (Elt Ideal) X (ix3 0 0 r) := by
  subst ho
  rw [View.readAt_apply]
  refine congrArg (v.read (Elt Ideal) X) (funext fun a => Fin.ext ?_)
  have h : ∀ a, (y a).val = 0 := fun a => by
    have := (y a).isLt
    fin_cases a <;> exact Nat.lt_one_iff.mp this
  fin_cases a
  · show 0 + 1 * (y 0).val = 0; rw [h]
  · show 0 + 1 * (y 1).val = 0; rw [h]
  · show r.val + 1 * (y 2).val = r.val; rw [h]; omega

/-- What one trip leaves at a place of the accumulator. -/
theorem trip_at (𝒱 : Variants) (c : Dev nD) (bd : Option 𝒱.V) (i : grid2.Coords) (arg1 : Memref sig .tc .smem S1x1x2000 .i32) (harg1 : arg1.IsWhole) (arg2 : Memref sig .tc .smem S1x1 .f32) (harg2 : arg2.IsWhole) (arg3 : Memref sig .tc .vmem S2000x1 .f32) (harg3 : arg3.IsWhole) (arg4 : Memref sig .tc .vmem S2000x60 .f32) (harg4 : arg4.IsWhole) (arg5 : Memref sig .tc .vmem S10000x64 .f32) (harg5 : arg5.IsWhole) (arg6 : Memref sig .tc .vmem S2000x64 .f32) (harg6 : arg6.IsWhole) (arg7 : Memref sig .tc .vmem S4x10000x64 .f32) (harg7 : arg7.IsWhole) (X_arg1 : BufTy.Contents (Elt Ideal) arg1.view.ty) (X_arg6 : BufTy.Contents (Elt Ideal) arg6.view.ty) (k : Fin k2_t1_loop.trips) (k2_hw1 : k2_chk1 (arg1.view.readAt (Elt Ideal) (Rect.unit (s := S1x1x2000) (k2_off1 k) S1x1x1.size (k2_off1_inb k)).toLoadRect X_arg1 (Shape.Idx.first (numel1_S1x1x1.symm ▸ Nat.one_pos)))) (k2_hw2 : k2_chk2 (arg1.view.readAt (Elt Ideal) (Rect.unit (s := S1x1x2000) (k2_off4 k) S1x1x1.size (k2_off4_inb k)).toLoadRect X_arg1 (Shape.Idx.first (numel1_S1x1x1.symm ▸ Nat.one_pos)))) (k2_hw3 : k2_chk3 (arg1.view.readAt (Elt Ideal) (Rect.unit (s := S1x1x2000) (k2_off7 k) S1x1x1.size (k2_off7_inb k)).toLoadRect X_arg1 (Shape.Idx.first (numel1_S1x1x1.symm ▸ Nat.one_pos)))) (k2_hw4 : k2_chk4 (arg1.view.readAt (Elt Ideal) (Rect.unit (s := S1x1x2000) (k2_off10 k) S1x1x1.size (k2_off10_inb k)).toLoadRect X_arg1 (Shape.Idx.first (numel1_S1x1x1.symm ▸ Nat.one_pos))))  (f : BufTy.Contents (Elt Ideal) arg7.view.ty) (hk : k.val < 500) (l : Fin 4) (n : Fin 10000) (j : Fin 64) :
    (arg7.view.read (Elt Ideal) (arg7.view.writes (Elt Ideal) f (tripL_k2_t1 (F := Ideal) 𝒱 c bd i arg1 harg1 arg2 harg2 arg3 harg3 arg4 harg4 arg5 harg5 arg6 harg6 arg7 harg7 X_arg1 X_arg6 k k2_hw1 k2_hw2 k2_hw3 k2_hw4 f)) (ix3 l n j) : EReal)
      = (arg7.view.read (Elt Ideal) f (ix3 l n j) : EReal) + ∑ q : Fin 4, if l.val = q.val ∧ n.val = ((arg1.view.read (Elt Ideal) X_arg1 (ix3 0 0 (lane k.val hk q)) : BitVec 32)).toNat then
          (arg6.view.read (Elt Ideal) X_arg6 (ix2 (lane k.val hk q) j) : EReal) else 0 := by
  unfold tripL_k2_t1 trip_k2_t1 trip_k2_t1.sl.HW_arg7_3 trip_k2_t1.sl.HW_arg7_2 trip_k2_t1.sl.HW_arg7_1
  dsimp only
  refine (store_at arg7.view f _ _ _ (arg6.view.readAt (Elt Ideal) (Rect.unit (s := S2000x64) (k2_off12 k) S1x64.size (k2_off12_inb k)).toLoadRect X_arg6) _ rfl 3 _ (off11 _) l n j).trans ?_
  refine (congrArg (· + _) (store_at arg7.view f _ _ _ (arg6.view.readAt (Elt Ideal) (Rect.unit (s := S2000x64) (k2_off9 k) S1x64.size (k2_off9_inb k)).toLoadRect X_arg6) _ rfl 2 _ (off8 _) l n j)).trans ?_
  refine (congrArg (· + _ + _) (store_at arg7.view f _ _ _ (arg6.view.readAt (Elt Ideal) (Rect.unit (s := S2000x64) (k2_off6 k) S1x64.size (k2_off6_inb k)).toLoadRect X_arg6) _ rfl 1 _ (off5 _) l n j)).trans ?_
  refine (congrArg (· + _ + _ + _) (store_at arg7.view f _ _ _ (arg6.view.readAt (Elt Ideal) (Rect.unit (s := S2000x64) (k2_off3 k) S1x64.size (k2_off3_inb k)).toLoadRect X_arg6) _ rfl 0 _ (off2 _) l n j)).trans ?_
  rw [row_read arg6.view X_arg6 _ _ (lane k.val hk 0) (k2_off3_eq k), row_read arg6.view X_arg6 _ _ (lane k.val hk 1) (k2_off6_eq k),
    row_read arg6.view X_arg6 _ _ (lane k.val hk 2) (k2_off9_eq k), row_read arg6.view X_arg6 _ _ (lane k.val hk 3) (k2_off12_eq k)]
  unfold trip_k2_t1.sl.r_3 trip_k2_t1.sl.r_2 trip_k2_t1.sl.r_1 trip_k2_t1.sl.r
  rw [word_read arg1.view X_arg1 _ _ (lane k.val hk 0) (k2_off1_eq k), word_read arg1.view X_arg1 _ _ (lane k.val hk 1) (k2_off4_eq k),
    word_read arg1.view X_arg1 _ _ (lane k.val hk 2) (k2_off7_eq k), word_read arg1.view X_arg1 _ _ (lane k.val hk 3) (k2_off10_eq k)]
  rw [Fin.sum_univ_four]
  simp only [add_assoc]
  rfl

/-- What row `e` of a block adds at a place of the accumulator: row `e` where its lane and its destination are named. -/
def part (w : IVec S1x1x2000 32) (rows : FVec Ideal S2000x64 .f32) (l : Fin 4) (n : Fin 10000) (j : Fin 64) (e : Fin 2000) : EReal :=
  if l.val = e.val % 4 ∧ n.val = (w (ix3 0 0 e)).toNat then rows (ix2 e j) else 0

/-- What the first `k` trips leave at a place of the accumulator. -/
theorem trips_at (𝒱 : Variants) (c : Dev nD) (bd : Option 𝒱.V) (i : grid2.Coords) (arg1 : Memref sig .tc .smem S1x1x2000 .i32) (harg1 : arg1.IsWhole) (arg2 : Memref sig .tc .smem S1x1 .f32) (harg2 : arg2.IsWhole) (arg3 : Memref sig .tc .vmem S2000x1 .f32) (harg3 : arg3.IsWhole) (arg4 : Memref sig .tc .vmem S2000x60 .f32) (harg4 : arg4.IsWhole) (arg5 : Memref sig .tc .vmem S10000x64 .f32) (harg5 : arg5.IsWhole) (arg6 : Memref sig .tc .vmem S2000x64 .f32) (harg6 : arg6.IsWhole) (arg7 : Memref sig .tc .vmem S4x10000x64 .f32) (harg7 : arg7.IsWhole) (X_arg1 : BufTy.Contents (Elt Ideal) arg1.view.ty) (X_arg6 : BufTy.Contents (Elt Ideal) arg6.view.ty) (G_arg7 : BufTy.Contents (Elt Ideal) arg7.view.ty) (k2_hw1L : ∀ (kq : ℕ) (hkq : kq < k2_t1_loop.trips), k2_chk1 (arg1.view.readAt (Elt Ideal) (Rect.unit (s := S1x1x2000) (k2_off1 ⟨kq, hkq⟩) S1x1x1.size (k2_off1_inb ⟨kq, hkq⟩)).toLoadRect X_arg1 (Shape.Idx.first (numel1_S1x1x1.symm ▸ Nat.one_pos)))) (k2_hw2L : ∀ (kq : ℕ) (hkq : kq < k2_t1_loop.trips), k2_chk2 (arg1.view.readAt (Elt Ideal) (Rect.unit (s := S1x1x2000) (k2_off4 ⟨kq, hkq⟩) S1x1x1.size (k2_off4_inb ⟨kq, hkq⟩)).toLoadRect X_arg1 (Shape.Idx.first (numel1_S1x1x1.symm ▸ Nat.one_pos)))) (k2_hw3L : ∀ (kq : ℕ) (hkq : kq < k2_t1_loop.trips), k2_chk3 (arg1.view.readAt (Elt Ideal) (Rect.unit (s := S1x1x2000) (k2_off7 ⟨kq, hkq⟩) S1x1x1.size (k2_off7_inb ⟨kq, hkq⟩)).toLoadRect X_arg1 (Shape.Idx.first (numel1_S1x1x1.symm ▸ Nat.one_pos)))) (k2_hw4L : ∀ (kq : ℕ) (hkq : kq < k2_t1_loop.trips), k2_chk4 (arg1.view.readAt (Elt Ideal) (Rect.unit (s := S1x1x2000) (k2_off10 ⟨kq, hkq⟩) S1x1x1.size (k2_off10_inb ⟨kq, hkq⟩)).toLoadRect X_arg1 (Shape.Idx.first (numel1_S1x1x1.symm ▸ Nat.one_pos)))) (l : Fin 4) (n : Fin 10000) (j : Fin 64) (k : ℕ) (hk : k ≤ 500) :
    (arg7.view.read (Elt Ideal) (arg7.view.writes (Elt Ideal) G_arg7 (pb_k2_t1 (F := Ideal) 𝒱 c bd i arg1 harg1 arg2 harg2 arg3 harg3 arg4 harg4 arg5 harg5 arg6 harg6 arg7 harg7 X_arg1 X_arg6 G_arg7 k2_hw1L k2_hw2L k2_hw3L k2_hw4L k)) (ix3 l n j) : EReal)
      = (arg7.view.read (Elt Ideal) G_arg7 (ix3 l n j) : EReal) + ∑ s : Fin k, ∑ q : Fin 4,
          part (arg1.view.read (Elt Ideal) X_arg1) (arg6.view.read (Elt Ideal) X_arg6) l n j (lane s.val (lt_of_lt_of_le s.isLt hk) q) := by
  induction k with
  | zero => exact (add_zero _).symm
  | succ k ih =>
    rw [Fin.sum_univ_castSucc, ← add_assoc]
    have h := pb_k2_t1_succ (F := Ideal) 𝒱 c bd i arg1 harg1 arg2 harg2 arg3 harg3 arg4 harg4 arg5 harg5 arg6 harg6 arg7 harg7 X_arg1 X_arg6 G_arg7 k2_hw1L k2_hw2L k2_hw3L k2_hw4L ⟨k, trips_eq ▸ hk⟩
    refine (congrArg (fun L => arg7.view.read (Elt Ideal) (arg7.view.writes (Elt Ideal) G_arg7 L) (ix3 l n j)) h).trans ?_
    refine (congrArg (fun g => arg7.view.read (Elt Ideal) g (ix3 l n j)) (View.writes_append _ _ _ _)).trans ?_
    refine (trip_at 𝒱 c bd i arg1 harg1 arg2 harg2 arg3 harg3 arg4 harg4 arg5 harg5 arg6 harg6 arg7 harg7 X_arg1 X_arg6 ⟨k, trips_eq ▸ hk⟩ _ _ _ _ _ hk l n j).trans ?_
    refine congrArg₂ (· + ·) (ih (Nat.le_of_succ_le hk)) (Finset.sum_congr rfl fun q _ => ?_)
    unfold part
    have hq : (lane k hk q).val % 4 = q.val := by show (4 * k + q.val) % 4 = q.val; omega
    refine if_congr ?_ rfl rfl
    show _ ↔ l.val = (lane k hk q).val % 4 ∧ _
    rw [hq]; exact Iff.rfl

/-- What all the trips leave at a place of the accumulator. -/
theorem loop_at (𝒱 : Variants) (c : Dev nD) (bd : Option 𝒱.V) (i : grid2.Coords) (arg1 : Memref sig .tc .smem S1x1x2000 .i32) (harg1 : arg1.IsWhole) (arg2 : Memref sig .tc .smem S1x1 .f32) (harg2 : arg2.IsWhole) (arg3 : Memref sig .tc .vmem S2000x1 .f32) (harg3 : arg3.IsWhole) (arg4 : Memref sig .tc .vmem S2000x60 .f32) (harg4 : arg4.IsWhole) (arg5 : Memref sig .tc .vmem S10000x64 .f32) (harg5 : arg5.IsWhole) (arg6 : Memref sig .tc .vmem S2000x64 .f32) (harg6 : arg6.IsWhole) (arg7 : Memref sig .tc .vmem S4x10000x64 .f32) (harg7 : arg7.IsWhole) (X_arg1 : BufTy.Contents (Elt Ideal) arg1.view.ty) (X_arg6 : BufTy.Contents (Elt Ideal) arg6.view.ty) (G_arg7 : BufTy.Contents (Elt Ideal) arg7.view.ty) (k2_hw1L : ∀ (kq : ℕ) (hkq : kq < k2_t1_loop.trips), k2_chk1 (arg1.view.readAt (Elt Ideal) (Rect.unit (s := S1x1x2000) (k2_off1 ⟨kq, hkq⟩) S1x1x1.size (k2_off1_inb ⟨kq, hkq⟩)).toLoadRect X_arg1 (Shape.Idx.first (numel1_S1x1x1.symm ▸ Nat.one_pos)))) (k2_hw2L : ∀ (kq : ℕ) (hkq : kq < k2_t1_loop.trips), k2_chk2 (arg1.view.readAt (Elt Ideal) (Rect.unit (s := S1x1x2000) (k2_off4 ⟨kq, hkq⟩) S1x1x1.size (k2_off4_inb ⟨kq, hkq⟩)).toLoadRect X_arg1 (Shape.Idx.first (numel1_S1x1x1.symm ▸ Nat.one_pos)))) (k2_hw3L : ∀ (kq : ℕ) (hkq : kq < k2_t1_loop.trips), k2_chk3 (arg1.view.readAt (Elt Ideal) (Rect.unit (s := S1x1x2000) (k2_off7 ⟨kq, hkq⟩) S1x1x1.size (k2_off7_inb ⟨kq, hkq⟩)).toLoadRect X_arg1 (Shape.Idx.first (numel1_S1x1x1.symm ▸ Nat.one_pos)))) (k2_hw4L : ∀ (kq : ℕ) (hkq : kq < k2_t1_loop.trips), k2_chk4 (arg1.view.readAt (Elt Ideal) (Rect.unit (s := S1x1x2000) (k2_off10 ⟨kq, hkq⟩) S1x1x1.size (k2_off10_inb ⟨kq, hkq⟩)).toLoadRect X_arg1 (Shape.Idx.first (numel1_S1x1x1.symm ▸ Nat.one_pos)))) (l : Fin 4) (n : Fin 10000) (j : Fin 64) :
    (arg7.view.read (Elt Ideal) (arg7.view.writes (Elt Ideal) G_arg7 (pb_k2_t1 (F := Ideal) 𝒱 c bd i arg1 harg1 arg2 harg2 arg3 harg3 arg4 harg4 arg5 harg5 arg6 harg6 arg7 harg7 X_arg1 X_arg6 G_arg7 k2_hw1L k2_hw2L k2_hw3L k2_hw4L k2_t1_loop.trips)) (ix3 l n j) : EReal)
      = (arg7.view.read (Elt Ideal) G_arg7 (ix3 l n j) : EReal) + ∑ e : Fin 2000,
          part (arg1.view.read (Elt Ideal) X_arg1) (arg6.view.read (Elt Ideal) X_arg6) l n j e := by
  rw [trips_eq]
  refine (trips_at 𝒱 c bd i arg1 harg1 arg2 harg2 arg3 harg3 arg4 harg4 arg5 harg5 arg6 harg6 arg7 harg7 X_arg1 X_arg6 G_arg7 k2_hw1L k2_hw2L k2_hw3L k2_hw4L l n j 500 le_rfl).trans (congrArg (_ + ·) ?_)
  refine Fin.sum_mul_add_congr fun s q hl => ?_
  congr 1
  exact Fin.ext (by show 4 * s.val + q.val = s.val * 4 + q.val; omega)

end Cert.KernelIdeal.ScatVal
end
-- ==== Proof.KernelIdeal.ScatLeft.lean ====
module

public import proofs.«01_k».proof.Proof.KernelIdeal.ScatTrip
public import Idealize.ShloMosaic.Lib.VecWindow

/-!
# What one point of the third call leaves in the accumulator

At every point the rows of the block are written whole and then added, row by row, into the accumulator; the first
point clears it before, the last one divides the sum of its lanes afterwards.
-/

@[expose] public section

set_option maxRecDepth 16384

noncomputable section

namespace Cert.KernelIdeal.ScatVal

open Cert.KernelIdeal Cert.KernelIdeal.Gen
open Idealize.ShloMosaic Idealize.ShloMosaic.TcCoe
open Idealize.SL Idealize.SL.RA

/-- The rows of a block: the weight in column 0, the weighted values behind it. -/
abbrev rowsOf (x1 : Vec Ideal S1x1 .f32) (x2 : Vec Ideal S2000x1 .f32) (x3 : Vec Ideal S2000x60 .f32) : FVec Ideal S2000x64 .f32 :=
  k2_pay2 (F := Ideal) x2 (x1 (ix2 0 0)) x3

theorem rowsA (c : Dev nD) (arg2 : Memref sig .tc .smem S1x1 .f32) (harg2 : arg2.IsWhole) (arg3 : Memref sig .tc .vmem S2000x1 .f32) (harg3 : arg3.IsWhole) (arg4 : Memref sig .tc .vmem S2000x60 .f32) (harg4 : arg4.IsWhole) (arg6 : Memref sig .tc .vmem S2000x64 .f32)
    (x1 : Vec Ideal S1x1 .f32) (x2 : Vec Ideal S2000x1 .f32) (x3 : Vec Ideal S2000x60 .f32) :
    arg6.view.read (Elt Ideal) (arg6.view.writes (Elt Ideal) arg6.view.junk (Scat.runA.sl.HS0_1 c arg2 harg2 arg3 harg3 arg4 harg4 x1 x2 x3)) = rowsOf x1 x2 x3 := by
  unfold Scat.runA.sl.HS0_1
  refine (View.read_writes_full arg6.view _ inb_S2000x64_S2000x64_0_0 _ []).trans ?_
  rw [View.readAt_full, View.readAt_full, harg3.read_unread, harg4.read_unread]
  refine congrArg (fun g => k2_pay2 (F := Ideal) x2 g x3) ?_
  unfold Scat.runA.sl.r
  rw [View.readAt_apply, harg2.read_unread]
  exact congrArg x1 (funext fun a => by fin_cases a <;> exact Subsingleton.elim (α := Fin 1) _ _)

theorem rowsB (c : Dev nD) (arg2 : Memref sig .tc .smem S1x1 .f32) (harg2 : arg2.IsWhole) (arg3 : Memref sig .tc .vmem S2000x1 .f32) (harg3 : arg3.IsWhole) (arg4 : Memref sig .tc .vmem S2000x60 .f32) (harg4 : arg4.IsWhole) (arg6 : Memref sig .tc .vmem S2000x64 .f32)
    (x1 : Vec Ideal S1x1 .f32) (x2 : Vec Ideal S2000x1 .f32) (x3 : Vec Ideal S2000x60 .f32) :
    arg6.view.read (Elt Ideal) (arg6.view.writes (Elt Ideal) arg6.view.junk (Scat.runB.sl.HS0_1 c arg2 harg2 arg3 harg3 arg4 harg4 x1 x2 x3)) = rowsOf x1 x2 x3 := by
  unfold Scat.runB.sl.HS0_1
  refine (View.read_writes_full arg6.view _ inb_S2000x64_S2000x64_0_0 _ []).trans ?_
  rw [View.readAt_full, View.readAt_full, harg3.read_unread, harg4.read_unread]
  refine congrArg (fun g => k2_pay2 (F := Ideal) x2 g x3) ?_
  unfold Scat.runB.sl.r
  rw [View.readAt_apply, harg2.read_unread]
  exact congrArg x1 (funext fun a => by fin_cases a <;> exact Subsingleton.elim (α := Fin 1) _ _)

theorem rowsC (c : Dev nD) (arg2 : Memref sig .tc .smem S1x1 .f32) (harg2 : arg2.IsWhole) (arg3 : Memref sig .tc .vmem S2000x1 .f32) (harg3 : arg3.IsWhole) (arg4 : Memref sig .tc .vmem S2000x60 .f32) (harg4 : arg4.IsWhole) (arg6 : Memref sig .tc .vmem S2000x64 .f32)
    (x1 : Vec Ideal S1x1 .f32) (x2 : Vec Ideal S2000x1 .f32) (x3 : Vec Ideal S2000x60 .f32) :
    arg6.view.read (Elt Ideal) (arg6.view.writes (Elt Ideal) arg6.view.junk (Scat.runC.sl.HS0_1 c arg2 harg2 arg3 harg3 arg4 harg4 x1 x2 x3)) = rowsOf x1 x2 x3 := by
  unfold Scat.runC.sl.HS0_1
  refine (View.read_writes_full arg6.view _ inb_S2000x64_S2000x64_0_0 _ []).trans ?_
  rw [View.readAt_full, View.readAt_full, harg3.read_unread, harg4.read_unread]
  refine congrArg (fun g => k2_pay2 (F := Ideal) x2 g x3) ?_
  unfold Scat.runC.sl.r
  rw [View.readAt_apply, harg2.read_unread]
  exact congrArg x1 (funext fun a => by fin_cases a <;> exact Subsingleton.elim (α := Fin 1) _ _)

theorem pay2_zero (l : FVec Ideal S2000x1 .f32) (g : Elt Ideal .f32) (v : FVec Ideal S2000x60 .f32) (r : Fin 2000) :
    k2_pay2 (F := Ideal) l g v (ix2 r 0) = Ideal.exp ((l (ix2 r 0) : EReal) - (g : EReal)) := by
  pointwise [k2_pay2]

theorem pay2_succ (l : FVec Ideal S2000x1 .f32) (g : Elt Ideal .f32) (v : FVec Ideal S2000x60 .f32) (r : Fin 2000) (j : Fin 60) :
    k2_pay2 (F := Ideal) l g v (ix2 r ⟨j.val + 1, by omega⟩) = Ideal.exp ((l (ix2 r 0) : EReal) - (g : EReal)) * (v (ix2 r j) : EReal) := by
  pointwise [k2_pay2]
  rw [dif_neg (Nat.not_lt.mpr (Nat.le_add_left 1 _)), dif_pos (by omega)]
  rfl

theorem pay1_at (y : S4x10000x64.Idx) : k2_pay1 (F := Ideal) y = (0 : EReal) := by
  pointwise [k2_pay1]

theorem pay5_at (a b d e : FVec Ideal S1x10000x64 .f32) (n : Fin 10000) (j : Fin 64) :
    k2_pay5 (F := Ideal) a b d e (ix2 n j)
      = Ideal.div (a (ix3 0 n j) + b (ix3 0 n j) + d (ix3 0 n j) + e (ix3 0 n j))
          ((a (ix3 0 n 0) + b (ix3 0 n 0) + d (ix3 0 n 0) + e (ix3 0 n 0)) + Edge.lit 0x3089705F#32) := by
  pointwise [k2_pay5]

/-- A middle point. -/
theorem leftB_at (c : Dev nD) (i : grid2.Coords) (arg1 : Memref sig .tc .smem S1x1x2000 .i32) (harg1 : arg1.IsWhole) (arg2 : Memref sig .tc .smem S1x1 .f32) (harg2 : arg2.IsWhole) (arg3 : Memref sig .tc .vmem S2000x1 .f32) (harg3 : arg3.IsWhole) (arg4 : Memref sig .tc .vmem S2000x60 .f32) (harg4 : arg4.IsWhole) (arg5 : Memref sig .tc .vmem S10000x64 .f32) (harg5 : arg5.IsWhole) (arg6 : Memref sig .tc .vmem S2000x64 .f32) (harg6 : arg6.IsWhole) (arg7 : Memref sig .tc .vmem S4x10000x64 .f32) (harg7 : arg7.IsWhole) (hc0 : ¬Scat.AtFirst i) (hc1 : ¬Scat.AtLast i)
    (x0 : Vec Ideal S1x1x2000 .i32) (x1 : Vec Ideal S1x1 .f32) (x2 : Vec Ideal S2000x1 .f32) (x3 : Vec Ideal S2000x60 .f32) (xs : Vec Ideal S4x10000x64 .f32) (k2_hw1L : Scat.RowOk1 arg1 harg1 x0) (k2_hw2L : Scat.RowOk2 arg1 harg1 x0) (k2_hw3L : Scat.RowOk3 arg1 harg1 x0) (k2_hw4L : Scat.RowOk4 arg1 harg1 x0)  (l : Fin 4) (n : Fin 10000) (j : Fin 64) :
    (Scat.leftB (F := Ideal) c i arg1 harg1 arg2 harg2 arg3 harg3 arg4 harg4 arg5 harg5 arg6 harg6 arg7 harg7 hc0 hc1 x0 x1 x2 x3 xs k2_hw1L k2_hw2L k2_hw3L k2_hw4L (ix3 l n j) : EReal) = (xs (ix3 l n j) : EReal) + ∑ e : Fin 2000, part x0 (rowsOf x1 x2 x3) l n j e := by
  unfold Scat.leftB Scat.runB
  refine (loop_at Variants.none c none i arg1 harg1 arg2 harg2 arg3 harg3 arg4 harg4 arg5 harg5 arg6 harg6 arg7 harg7 _ _ _ k2_hw1L k2_hw2L k2_hw3L k2_hw4L l n j).trans ?_
  rw [harg7.read_unread, harg1.read_unread, rowsB c arg2 harg2 arg3 harg3 arg4 harg4 arg6 x1 x2 x3]

/-- The last point, before its division. -/
theorem leftC_at (c : Dev nD) (i : grid2.Coords) (arg1 : Memref sig .tc .smem S1x1x2000 .i32) (harg1 : arg1.IsWhole) (arg2 : Memref sig .tc .smem S1x1 .f32) (harg2 : arg2.IsWhole) (arg3 : Memref sig .tc .vmem S2000x1 .f32) (harg3 : arg3.IsWhole) (arg4 : Memref sig .tc .vmem S2000x60 .f32) (harg4 : arg4.IsWhole) (arg5 : Memref sig .tc .vmem S10000x64 .f32) (harg5 : arg5.IsWhole) (arg6 : Memref sig .tc .vmem S2000x64 .f32) (harg6 : arg6.IsWhole) (arg7 : Memref sig .tc .vmem S4x10000x64 .f32) (harg7 : arg7.IsWhole) (hc0 : ¬Scat.AtFirst i) (hc1 : Scat.AtLast i)
    (x0 : Vec Ideal S1x1x2000 .i32) (x1 : Vec Ideal S1x1 .f32) (x2 : Vec Ideal S2000x1 .f32) (x3 : Vec Ideal S2000x60 .f32) (xs : Vec Ideal S4x10000x64 .f32) (k2_hw1L : Scat.RowOk1 arg1 harg1 x0) (k2_hw2L : Scat.RowOk2 arg1 harg1 x0) (k2_hw3L : Scat.RowOk3 arg1 harg1 x0) (k2_hw4L : Scat.RowOk4 arg1 harg1 x0)  (l : Fin 4) (n : Fin 10000) (j : Fin 64) :
    (Scat.leftC (F := Ideal) c i arg1 harg1 arg2 harg2 arg3 harg3 arg4 harg4 arg5 harg5 arg6 harg6 arg7 harg7 hc0 hc1 x0 x1 x2 x3 xs k2_hw1L k2_hw2L k2_hw3L k2_hw4L (ix3 l n j) : EReal) = (xs (ix3 l n j) : EReal) + ∑ e : Fin 2000, part x0 (rowsOf x1 x2 x3) l n j e := by
  unfold Scat.leftC Scat.runC
  refine (loop_at Variants.none c none i arg1 harg1 arg2 harg2 arg3 harg3 arg4 harg4 arg5 harg5 arg6 harg6 arg7 harg7 _ _ _ k2_hw1L k2_hw2L k2_hw3L k2_hw4L l n j).trans ?_
  rw [harg7.read_unread, harg1.read_unread, rowsC c arg2 harg2 arg3 harg3 arg4 harg4 arg6 x1 x2 x3]

/-- The first point. -/
theorem leftA_at (c : Dev nD) (i : grid2.Coords) (arg1 : Memref sig .tc .smem S1x1x2000 .i32) (harg1 : arg1.IsWhole) (arg2 : Memref sig .tc .smem S1x1 .f32) (harg2 : arg2.IsWhole) (arg3 : Memref sig .tc .vmem S2000x1 .f32) (harg3 : arg3.IsWhole) (arg4 : Memref sig .tc .vmem S2000x60 .f32) (harg4 : arg4.IsWhole) (arg5 : Memref sig .tc .vmem S10000x64 .f32) (harg5 : arg5.IsWhole) (arg6 : Memref sig .tc .vmem S2000x64 .f32) (harg6 : arg6.IsWhole) (harg7 : Scat.accM.IsWhole) (hc0 : Scat.AtFirst i) (hc1 : ¬Scat.AtLast i)
    (x0 : Vec Ideal S1x1x2000 .i32) (x1 : Vec Ideal S1x1 .f32) (x2 : Vec Ideal S2000x1 .f32) (x3 : Vec Ideal S2000x60 .f32)  (k2_hw1L : Scat.RowOk1 arg1 harg1 x0) (k2_hw2L : Scat.RowOk2 arg1 harg1 x0) (k2_hw3L : Scat.RowOk3 arg1 harg1 x0) (k2_hw4L : Scat.RowOk4 arg1 harg1 x0)  (l : Fin 4) (n : Fin 10000) (j : Fin 64) :
    (Scat.leftA (F := Ideal) c i arg1 harg1 arg2 harg2 arg3 harg3 arg4 harg4 arg5 harg5 arg6 harg6 Scat.accM harg7 hc0 hc1 x0 x1 x2 x3 k2_hw1L k2_hw2L k2_hw3L k2_hw4L (ix3 l n j) : EReal) = ∑ e : Fin 2000, part x0 (rowsOf x1 x2 x3) l n j e := by
  unfold Scat.leftA Scat.runA
  refine (congrArg (fun g => Scat.accM.view.read (Elt Ideal) g (ix3 l n j)) (View.writes_append _ _ _ _)).trans ?_
  refine (loop_at Variants.none c none i arg1 harg1 arg2 harg2 arg3 harg3 arg4 harg4 arg5 harg5 arg6 harg6 Scat.accM harg7 _ _ _ k2_hw1L k2_hw2L k2_hw3L k2_hw4L l n j).trans ?_
  rw [harg1.read_unread, rowsA c arg2 harg2 arg3 harg3 arg4 harg4 arg6 x1 x2 x3]
  refine (congrArg (· + _) ?_).trans (zero_add _)
  unfold Scat.runA.sl.HS1_1
  exact (congrFun (View.read_writes_full Scat.accM.view _ inb_S4x10000x64_S4x10000x64_0_0_0 _ []) _).trans (pay1_at _)

/-- One lane of the accumulator, loaded. -/
theorem lane_read (v : View sig .tc .vmem S4x10000x64 .f32) (X : BufTy.Contents (Elt Ideal) v.ty) (off : Fin 3 → ℕ)
    (inb : ∀ a, off a + S1x10000x64.size a ≤ S4x10000x64.size a) (l : Fin 4) (ho : off = ![l.val, 0, 0]) (n : Fin 10000) (j : Fin 64) :
    v.readAt (Elt Ideal) (Rect.unit (s := S4x10000x64) off S1x10000x64.size inb).toLoadRect X (ix3 0 n j) = v.read (Elt Ideal) X (ix3 l n j) := by
  subst ho
  rw [View.readAt_apply]
  refine congrArg (v.read (Elt Ideal) X) (funext fun a => Fin.ext ?_)
  fin_cases a
  · rfl
  · show 0 + 1 * n.val = n.val; omega
  · show 0 + 1 * j.val = j.val; omega

/-- The four lanes of an accumulator, added up. -/
def lanes (A : FVec Ideal S4x10000x64 .f32) (n : Fin 10000) (j : Fin 64) : EReal := ∑ l : Fin 4, (A (ix3 l n j) : EReal)

/-- What the last point stores: the sum of the lanes over the sum of the weights. -/
theorem leftOut_at (c : Dev nD) (i : grid2.Coords) (arg1 : Memref sig .tc .smem S1x1x2000 .i32) (harg1 : arg1.IsWhole) (arg2 : Memref sig .tc .smem S1x1 .f32) (harg2 : arg2.IsWhole) (arg3 : Memref sig .tc .vmem S2000x1 .f32) (harg3 : arg3.IsWhole) (arg4 : Memref sig .tc .vmem S2000x60 .f32) (harg4 : arg4.IsWhole) (arg5 : Memref sig .tc .vmem S10000x64 .f32) (harg5 : arg5.IsWhole) (arg6 : Memref sig .tc .vmem S2000x64 .f32) (harg6 : arg6.IsWhole) (arg7 : Memref sig .tc .vmem S4x10000x64 .f32) (harg7 : arg7.IsWhole) (hc0 : ¬Scat.AtFirst i) (hc1 : Scat.AtLast i)
    (x0 : Vec Ideal S1x1x2000 .i32) (x1 : Vec Ideal S1x1 .f32) (x2 : Vec Ideal S2000x1 .f32) (x3 : Vec Ideal S2000x60 .f32) (xs : Vec Ideal S4x10000x64 .f32) (k2_hw1L : Scat.RowOk1 arg1 harg1 x0) (k2_hw2L : Scat.RowOk2 arg1 harg1 x0) (k2_hw3L : Scat.RowOk3 arg1 harg1 x0) (k2_hw4L : Scat.RowOk4 arg1 harg1 x0)  (n : Fin 10000) (j : Fin 64) :
    (Scat.leftOut (F := Ideal) c i arg1 harg1 arg2 harg2 arg3 harg3 arg4 harg4 arg5 harg5 arg6 harg6 arg7 harg7 hc0 hc1 x0 x1 x2 x3 xs k2_hw1L k2_hw2L k2_hw3L k2_hw4L (ix2 n j) : EReal)
      = Ideal.div (lanes (Scat.leftC (F := Ideal) c i arg1 harg1 arg2 harg2 arg3 harg3 arg4 harg4 arg5 harg5 arg6 harg6 arg7 harg7 hc0 hc1 x0 x1 x2 x3 xs k2_hw1L k2_hw2L k2_hw3L k2_hw4L) n j) (lanes (Scat.leftC (F := Ideal) c i arg1 harg1 arg2 harg2 arg3 harg3 arg4 harg4 arg5 harg5 arg6 harg6 arg7 harg7 hc0 hc1 x0 x1 x2 x3 xs k2_hw1L k2_hw2L k2_hw3L k2_hw4L) n 0 + Edge.lit 0x3089705F#32) := by
  unfold lanes
  rw [Fin.sum_univ_four, Fin.sum_univ_four]
  unfold Scat.leftOut Scat.leftC Scat.runC
  refine (congrFun (View.read_writes_full (Memref.whole cc2_stg4_0 : Memref sig .tc .vmem S10000x64 .f32).view _ inb_S10000x64_S10000x64_0_0 _ []) _).trans ?_
  refine (pay5_at _ _ _ _ n j).trans ?_
  unfold Scat.runC.sl.v22 Scat.runC.sl.v24 Scat.runC.sl.v27 Scat.runC.sl.v30
  refine congrArg₂ Ideal.div ?_ (congrArg (· + _) ?_)
  · refine congrArg₂ (· + ·) (congrArg₂ (· + ·) (congrArg₂ (· + ·) ?_ ?_) ?_) ?_
    · exact lane_read arg7.view _ _ _ 0 rfl n j
    · exact lane_read arg7.view _ _ _ 1 rfl n j
    · exact lane_read arg7.view _ _ _ 2 rfl n j
    · exact lane_read arg7.view _ _ _ 3 rfl n j
  · refine congrArg₂ (· + ·) (congrArg₂ (· + ·) (congrArg₂ (· + ·) ?_ ?_) ?_) ?_
    · exact lane_read arg7.view _ _ _ 0 rfl n 0
    · exact lane_read arg7.view _ _ _ 1 rfl n 0
    · exact lane_read arg7.view _ _ _ 2 rfl n 0
    · exact lane_read arg7.view _ _ _ 3 rfl n 0

end Cert.KernelIdeal.ScatVal
end
-- ==== Proof.KernelIdeal.ScatOut.lean ====
module

public import proofs.«01_k».proof.Proof.KernelIdeal.ScatLeft

/-!
# The array of the third call

The accumulator after every point is the sum over the blocks so far; what the last point stores is, row by row, the
sum over all blocks' rows that name this row, over the sum of their weights.
-/

@[expose] public section

set_option maxRecDepth 16384

noncomputable section

namespace Cert.KernelIdeal.ScatVal

open Cert.KernelIdeal Cert.KernelIdeal.Gen
open Idealize.ShloMosaic Idealize.ShloMosaic.TcCoe
open Idealize.SL Idealize.SL.RA

variable (V : (c : Dev nD) → (b : Ref sig .tc) → Buf (Elt Ideal) ((c : Thread nD τ).loc b))

/-- The rows of block `t`. -/
abbrev rowsAt (c : Dev nD) (t : Fin cfg2.N) : FVec Ideal S2000x64 .f32 :=
  rowsOf (Scat.blockAt V c 1 t) (Scat.blockAt V c 2 t) (Scat.blockAt V c 3 t)

/-- What block `t` adds at a place of the accumulator. -/
abbrev blockPart (c : Dev nD) (l : Fin 4) (n : Fin 10000) (j : Fin 64) (t : Fin cfg2.N) : EReal :=
  ∑ e : Fin 2000, part (Scat.blockAt V c 0 t) (rowsAt V c t) l n j e

theorem acc_at (hH : Scat.RowsOk V) (c : Dev nD) (l : Fin 4) (n : Fin 10000) (j : Fin 64) (k : ℕ) (hk : k < cfg2.N) :
    (Scat.accAt V hH c k hk (ix3 l n j) : EReal) = ∑ s : Fin (k + 1), blockPart V c l n j ⟨s.val, Nat.lt_of_lt_of_le s.isLt hk⟩ := by
  have hN : cfg2.N = 80 := N_2
  induction k with
  | zero =>
    refine (congrFun (Scat.accAt_first V hH c ⟨0, hk⟩ (Nat.zero_mod _) (fun h => by dsimp only at h; omega)) _).trans ?_
    refine (leftA_at _ _ _ _ _ _ _ _ _ _ _ _ _ _ _ _ _ _ _ _ _ _ _ _ _ l n j).trans ?_
    exact (Fin.sum_univ_one fun s : Fin 1 => blockPart V c l n j ⟨s.val, Nat.lt_of_lt_of_le s.isLt hk⟩).symm
  | succ k ih =>
    rw [Fin.sum_univ_castSucc]
    have h0 : ¬ (k + 1) % 80 = 0 := by omega
    by_cases h1 : (k + 1) % 80 = 79
    · refine (congrFun (Scat.accAt_last V hH c ⟨k + 1, hk⟩ h0 h1) _).trans ?_
      refine (leftC_at _ _ _ _ _ _ _ _ _ _ _ _ _ _ _ _ _ _ _ _ _ _ _ _ _ _ _ l n j).trans ?_
      exact congrArg (· + _) (ih (Nat.lt_of_succ_lt hk))
    · refine (congrFun (Scat.accAt_mid V hH c ⟨k + 1, hk⟩ h0 h1) _).trans ?_
      refine (leftB_at _ _ _ _ _ _ _ _ _ _ _ _ _ _ _ _ _ _ _ _ _ _ _ _ _ _ _ l n j).trans ?_
      exact congrArg (· + _) (ih (Nat.lt_of_succ_lt hk))

/-- What row `e` of a block adds to row `n`, its lane forgotten. -/
def put (w : IVec S1x1x2000 32) (rows : FVec Ideal S2000x64 .f32) (n : Fin 10000) (j : Fin 64) (e : Fin 2000) : EReal :=
  if (w (ix3 0 0 e)).toNat = n.val then rows (ix2 e j) else 0

/-- Every row lies in one lane. -/
theorem sum_lane (w : IVec S1x1x2000 32) (rows : FVec Ideal S2000x64 .f32) (n : Fin 10000) (j : Fin 64) (e : Fin 2000) :
    ∑ l : Fin 4, part w rows l n j e = put w rows n j e := by
  unfold part put
  have hl : e.val % 4 < 4 := Nat.mod_lt _ (by omega)
  rw [Finset.sum_eq_single_of_mem (⟨e.val % 4, hl⟩ : Fin 4) (Finset.mem_univ _) fun l _ h => if_neg fun hh => h (Fin.ext hh.1)]
  exact if_congr ⟨fun h => h.2.symm, fun h => ⟨rfl, h.symm⟩⟩ rfl rfl

/-- Row `n` after all points. -/
def total (c : Dev nD) (n : Fin 10000) (j : Fin 64) : EReal :=
  ∑ t : Fin cfg2.N, ∑ e : Fin 2000, put (Scat.blockAt V c 0 t) (rowsAt V c t) n j e

theorem lanes_last (hH : Scat.RowsOk V) (c : Dev nD) (t : Fin cfg2.N) (h1 : t.val % 80 = 79) (n : Fin 10000) (j : Fin 64) :
    lanes (Scat.accAt V hH c t.val t.isLt) n j = total V c n j := by
  have hN : cfg2.N = 80 := N_2
  unfold lanes total
  have ht : t.val + 1 = cfg2.N := by have := t.isLt; omega
  calc ∑ l : Fin 4, (Scat.accAt V hH c t.val t.isLt (ix3 l n j) : EReal)
      = ∑ l : Fin 4, ∑ s : Fin cfg2.N, blockPart V c l n j s := Finset.sum_congr rfl fun l _ => by
        rw [acc_at V hH c l n j t.val t.isLt]
        exact Fintype.sum_equiv (finCongr ht) _ _ fun s => rfl
    _ = ∑ s : Fin cfg2.N, ∑ l : Fin 4, blockPart V c l n j s := Finset.sum_comm
    _ = _ := Finset.sum_congr rfl fun s _ => by
        refine Finset.sum_comm.trans (Finset.sum_congr rfl fun e _ => ?_)
        exact sum_lane _ _ _ _ _

/-- The array of the third call. -/
abbrev quotients (c : Dev nD) : FVec Ideal S10000x64 .f32 := fun y =>
  Ideal.div (total V c (y 0) (y 1)) (total V c (y 0) 0 + Edge.lit 0x3089705F#32)

theorem idx : ∀ t : Fin cfg2.N, win2_0.index t = ![t.val, 0, 0] ∧ win2_1.index t = ![0, 0] ∧ win2_2.index t = ![t.val, 0]
    ∧ win2_3.index t = ![t.val, 0] ∧ win2_4.index t = ![0, 0] :=
  (by decide +kernel : ∀ t : Fin grid2.N, _)

theorem out_arr (hH : Scat.RowsOk V) (c : Dev nD) : (Scat.datS V hH c).arrAt 4 cfg2.N = quotients V c := by
  have hN : cfg2.N = 80 := N_2
  refine (Scat.datS V hH c).arrAt_eq_of_covers 4 _ (by decide +kernel) fun t hf y => ?_
  have h1 : t.val % 80 = 79 := by
    by_contra h
    rw [Scat.flush_of_not_last t h] at hf
    exact Bool.false_ne_true hf
  blk_simp
  rw [Scat.after4]
  unfold Scat.outAt
  rw [dif_pos h1]
  obtain ⟨n, j, rfl⟩ : ∃ (n : Fin 10000) (j : Fin 64), y = ix2 n j := ⟨_, _, eq_ix2 y⟩
  have e : (win2_4.blk t).view.emb (ix2 n j) = ix2 n j := by blk_ext [idx t]
  refine Eq.trans ?_ (congrArg (quotients V c) e).symm
  refine (leftOut_at _ _ _ _ _ _ _ _ _ _ _ _ _ _ _ _ _ _ _ _ _ _ _ _ _ _ _ n j).trans ?_
  have hl := Scat.accAt_last V hH c t (by omega) h1
  refine congrArg₂ Ideal.div ?_ (congrArg (· + _) ?_)
  · exact (congrArg (fun A => lanes A n j) hl.symm).trans (lanes_last V hH c t h1 n j)
  · exact (congrArg (fun A => lanes A n 0) hl.symm).trans (lanes_last V hH c t h1 n 0)

end Cert.KernelIdeal.ScatVal
end
-- ==== Proof.NetOut.lean ====
/- What a node receives, with the division taken out of the sum. -/
module

public import proofs.«01_k».proof.Proof.Net

@[expose] public section

noncomputable section

namespace Cert.Net

open Idealize.ShloMosaic

/-- The exponential of a difference that is not above zero is a real between zero and one. -/
theorem exp_sub_real {l t : EReal} (h : l ≤ t) : ∃ r : ℝ, 0 ≤ r ∧ Ideal.exp (l - t) = (r : EReal) := by
  have h0 : l - t ≤ 0 ∨ l - t = 0 := by
    induction t with
    | bot => rw [le_bot_iff.1 h]; left; simp
    | top => left; simp
    | coe t =>
      left
      induction l with
      | bot => simp
      | top => exact absurd h (by simp)
      | coe l =>
        rw [← EReal.coe_sub]
        have : l ≤ t := by exact_mod_cast h
        exact_mod_cast sub_nonpos.2 this
  have h1 : l - t ≤ 0 := h0.elim id fun e => e.le
  generalize l - t = x at h1
  induction x with
  | bot => exact ⟨0, le_refl _, by simp⟩
  | top => exact absurd h1 (by simp)
  | coe x => exact ⟨Real.exp x, (Real.exp_pos x).le, rfl⟩

/-- A sum of products with one real that is not negative is the sum's product with it. -/
theorem sum_mul_real {ι : Type} (s : Finset ι) (f : ι → EReal) (r : ℝ) (hr : 0 ≤ r) : ∑ i ∈ s, f i * (r : EReal) = (∑ i ∈ s, f i) * (r : EReal) := by
  classical
  induction s using Finset.induction_on with
  | empty => simp
  | insert a s ha ih =>
    rw [Finset.sum_insert ha, Finset.sum_insert ha, ih, EReal.right_distrib_of_nonneg_of_ne_top (by exact_mod_cast hr) (EReal.coe_ne_top r)]

/-- The word added to a length is a positive real. -/
theorem eps_real : ∃ r : ℝ, 0 < r ∧ Edge.lit 0x3089705F#32 = (r : EReal) := by
  refine ⟨_, ?_, by simp [Edge.lit, Ideal.ofBits, Ideal.ieee, -EReal.coe_mul]; rfl⟩
  positivity

variable (N : Net)

theorem weight_real (e : Fin 160000) : ∃ r : ℝ, 0 ≤ r ∧ N.weight e = (r : EReal) :=
  exp_sub_real (Finset.le_sup (Finset.mem_univ e))

/-- A sum of reals that are not negative is one. -/
theorem sum_real {ι : Type} (s : Finset ι) (f : ι → EReal) (h : ∀ i, ∃ r : ℝ, 0 ≤ r ∧ f i = (r : EReal)) : ∃ r : ℝ, 0 ≤ r ∧ ∑ i ∈ s, f i = (r : EReal) := by
  classical
  induction s using Finset.induction_on with
  | empty => exact ⟨0, le_refl _, by simp⟩
  | insert a s ha ih =>
    obtain ⟨r, hr, er⟩ := ih
    obtain ⟨q, hq, eq⟩ := h a
    exact ⟨q + r, add_nonneg hq hr, by rw [Finset.sum_insert ha, er, eq, EReal.coe_add]⟩

theorem total_real (n : Fin 10000) : ∃ r : ℝ, 0 ≤ r ∧ N.total n = (r : EReal) := by
  refine sum_real _ _ fun e => ?_
  split
  · exact N.weight_real e
  · exact ⟨0, le_refl _, by simp⟩

/-- The division taken out of the sum. -/
theorem out_eq (n : Fin 10000) (j : Fin 60) :
    N.out n j = Ideal.div (∑ e, if (N.dst e).toNat = n then N.weight e * N.value e j else 0) (N.total n + Edge.lit 0x3089705F#32) := by
  obtain ⟨t, ht0, ht⟩ := N.total_real n
  obtain ⟨ε, hε0, hε⟩ := eps_real
  have hz : N.total n + Edge.lit 0x3089705F#32 = ((t + ε : ℝ) : EReal) := by rw [ht, hε, EReal.coe_add]
  unfold out
  rw [hz, Ideal.div_coe (by positivity), ← sum_mul_real _ _ _ (by positivity)]
  refine Finset.sum_congr rfl fun e _ => ?_
  split
  · rw [Ideal.div_coe (by positivity), mul_assoc, mul_comm _ (N.value e j), ← mul_assoc]
  · rw [zero_mul]

end Cert.Net

end
-- ==== Proof.KernelIdeal.KernOut.lean ====
module

public import proofs.«01_k».proof.Proof.KernelIdeal.EdgeOut
public import proofs.«01_k».proof.Proof.KernelIdeal.ScatOut
public import proofs.«01_k».proof.Proof.NetOut
public import proofs.«01_k».proof.Proof.KernelIdeal.InRange

/-!
# The kernel's result

The third call's blocks read the destinations, the largest logit of all, and the logits and values that the second
call left; so its array holds, per node, the weighted sum of the values over the sum of the weights, and the slice
that follows it is what a node receives.
-/

@[expose] public section

set_option maxRecDepth 16384

noncomputable section

namespace Cert.KernelIdeal.KernOut

open Cert.KernelIdeal Cert.KernelIdeal.Gen
open Idealize.ShloMosaic Idealize.ShloMosaic.TcCoe

section Host

variable (V : Valuation τ sig (Elt Ideal))

/-- The largest of the blocks' largest logits. -/
def gmax (x : FVec Ideal S80x1x1 .f32) : FVec Ideal S1x1 .f32 :=
  shapeCast S1x1 (Host.reduce FloatOps.maximumf x (constant S_ .f32 0xFF800000#32) reducesTo_S80x1x1_S_d0_1_2 h_S_) shapeCasts_S_S1x1

theorem v22_eq : StableHlo.after hostOps2 V (Proc.devRef .tc main_v22) = gmax (V (Proc.devRef .tc main_v20_2)) := by
  after_results
  rfl

theorem v23_eq : StableHlo.after hostOps2 V (Proc.devRef .tc main_v23) = shapeCast S80x1x2000 (V (Proc.devRef .tc main_v3) : IVec S160000 32) shapeCasts_S160000_S80x1x2000 := by
  after_results
  rfl

theorem v25_eq : StableHlo.after hostOps3 V (Proc.devRef .tc main_v25) = extractStridedSlice S10000x60 ![0, 1] (V (Proc.devRef .tc main_v24) : FVec Ideal S10000x64 .f32) slices_S10000x64_S10000x60_0_1 := by
  after_results

theorem gmax_at (x : FVec Ideal S80x1x1 .f32) : gmax x (ix2 0 0) = Finset.univ.sup fun b : Fin 80 => (x (ix3 b 0 0) : EReal) := by
  pointwise [gmax]
  refine (congrArg (fun b : EReal => Finset.fold max b _ _) Edge.lit_bot).trans ?_
  refine le_antisymm (Finset.sup_le fun k _ => ?_) (Finset.sup_le fun b _ => ?_)
  · have h1 : k.2.1 = 0 := Subsingleton.elim (α := Fin 1) _ _
    have h2 : k.2.2 = 0 := Subsingleton.elim (α := Fin 1) _ _
    show (x (ix3 k.1 k.2.1 k.2.2) : EReal) ≤ _
    rw [h1, h2]
    exact Finset.le_sup (f := fun b : Fin 80 => (x (ix3 b 0 0) : EReal)) (Finset.mem_univ k.1)
  · exact Finset.le_sup (f := fun k : Fin 80 × Fin 1 × Fin 1 => (x (ix3 k.1 k.2.1 k.2.2) : EReal)) (Finset.mem_univ (b, 0, 0))

theorem words_at (x : IVec S160000 32) (t : Fin 80) (e : Fin 2000) :
    shapeCast S80x1x2000 x shapeCasts_S160000_S80x1x2000 (ix3 t 0 e) = x (ix1 ⟨t.val * 2000 + e.val, by omega⟩) := by
  pointwise []

theorem slice_at (x : FVec Ideal S10000x64 .f32) (n : Fin 10000) (j : Fin 60) :
    extractStridedSlice S10000x60 ![0, 1] x slices_S10000x64_S10000x60_0_1 (ix2 n j) = x (ix2 n ⟨j.val + 1, by omega⟩) := by
  pointwise []
  exact congrArg (fun k => x (ix2 n k)) (Fin.ext (Nat.add_comm _ _))

end Host

variable (m : (ℓ : Loc nD τ sig) → Buf (Elt Ideal) ℓ) (c : Dev nD)

/-- The contents that the third call finds. -/
abbrev Vs := Whole.Ve2 m (Whole.outsB m)

theorem logits_in (h : Whole.EdgesOk m) : Vs m c main_v20_0 = EdgeArr.logitsA m c := by
  refine (V9_of m (Whole.outsB m) c main_v20_0 (by decide)).trans ?_
  refine Eq.trans ?_ ((Whole.outsB_logits m 8 c).trans (EdgeArr.logits_arr m c h))
  simp only [V8, Function.update_of_ne (show (main_v20_0 : DevRef τ sig) ≠ main_v20_2 by decide), Function.update_of_ne (show (main_v20_0 : DevRef τ sig) ≠ main_v20_1 by decide), Function.update_self]

theorem values_in (h : Whole.EdgesOk m) : Vs m c main_v20_1 = EdgeArr.valuesA m c := by
  refine (V9_of m (Whole.outsB m) c main_v20_1 (by decide)).trans ?_
  refine Eq.trans ?_ ((Whole.outsB_values m 8 c).trans (EdgeArr.values_arr m c h))
  simp only [V8, Function.update_of_ne (show (main_v20_1 : DevRef τ sig) ≠ main_v20_2 by decide), Function.update_self]

theorem max_in (h : Whole.EdgesOk m) : V8 m (Whole.outsB m) c (Proc.devRef .tc main_v20_2) = EdgeArr.maxA m c := by
  refine Eq.trans ?_ ((Whole.outsB_max m 8 c).trans (EdgeArr.max_arr m c h))
  simp only [V8, Function.update_self]

/-- An edge by its block and its place there. -/
abbrev at2 (t : Fin 80) (r : Fin 2000) : Fin 160000 := ⟨t.val * 2000 + r.val, by omega⟩

theorem top_in (h : Whole.EdgesOk m) : (Vs m c main_v22 : FVec Ideal S1x1 .f32) (ix2 0 0) = (NodeArr.net m c).top := by
  refine (congrFun (v22_eq (V8 m (Whole.outsB m) c)) _).trans ?_
  rw [max_in m c h, gmax_at]
  show (Finset.univ.sup fun b : Fin 80 => (EdgeArr.maxA m c (ix3 b 0 0) : EReal)) = (NodeArr.net m c).top
  refine le_antisymm (Finset.sup_le fun b _ => Finset.sup_le fun r _ => ?_) (Finset.sup_le fun e _ => ?_)
  · exact Finset.le_sup (f := (NodeArr.net m c).logit) (Finset.mem_univ (at2 b r))
  · have hb : e.val / 2000 < 80 := by omega
    have hr : e.val % 2000 < 2000 := Nat.mod_lt _ (by omega)
    have he : e = at2 ⟨_, hb⟩ ⟨_, hr⟩ := Fin.ext (by show e.val = e.val / 2000 * 2000 + e.val % 2000; omega)
    refine le_trans (le_of_eq (congrArg (NodeArr.net m c).logit he)) ?_
    refine le_trans ?_ (Finset.le_sup (f := fun b : Fin 80 => (EdgeArr.maxA m c (ix3 b 0 0) : EReal)) (Finset.mem_univ (⟨_, hb⟩ : Fin 80)))
    exact Finset.le_sup (f := fun r : Fin 2000 => (NodeArr.net m c).logit (at2 ⟨_, hb⟩ r)) (Finset.mem_univ (⟨_, hr⟩ : Fin 2000))

theorem words_in (t : Fin 80) (r : Fin 2000) : (Vs m c main_v23 : IVec S80x1x2000 32) (ix3 t 0 r) = (NodeArr.net m c).dst (at2 t r) := by
  have e3 : V8 m (Whole.outsB m) c (Proc.devRef .tc main_v3) = V1 m c (Proc.devRef .tc main_v3) :=
    (V8_of m (Whole.outsB m) c main_v3 (by decide)).trans
      (HostIn.V7_arg m (Whole.outsB m) c (by decide) (by decide) (by decide) (by decide) (by decide) (by decide))
  refine (congrFun (v23_eq (V8 m (Whole.outsB m) c)) _).trans ?_
  rw [e3]
  exact (words_at _ t r).trans (HostIn.dst_at m c _)

/-- The block's number among eighty. -/
abbrev blk (t : Fin cfg2.N) : Fin 80 := ⟨t.val, lt_of_lt_of_eq t.isLt N_2⟩

theorem b0 (t : Fin cfg2.N) (r : Fin 2000) : (Scat.blockAt (Vs m) c 0 t : IVec S1x1x2000 32) (ix3 0 0 r) = (NodeArr.net m c).dst (at2 (blk t) r) := by
  have e : (win2_0.blk t).view.emb (ix3 0 0 r) = ix3 (blk t) 0 r := by blk_ext [ScatVal.idx t]
  exact (congrArg (Vs m c main_v23) e).trans (words_in m c (blk t) r)

theorem b1 (h : Whole.EdgesOk m) (t : Fin cfg2.N) : (Scat.blockAt (Vs m) c 1 t : FVec Ideal S1x1 .f32) (ix2 0 0) = (NodeArr.net m c).top := by
  have e : (win2_1.blk t).view.emb (ix2 0 0) = ix2 0 0 := by blk_ext [ScatVal.idx t]
  exact (congrArg (Vs m c main_v22) e).trans (top_in m c h)

theorem b2 (h : Whole.EdgesOk m) (t : Fin cfg2.N) (r : Fin 2000) : (Scat.blockAt (Vs m) c 2 t : FVec Ideal S2000x1 .f32) (ix2 r 0) = (NodeArr.net m c).logit (at2 (blk t) r) := by
  have e : (win2_2.blk t).view.emb (ix2 r 0) = ix2 (at2 (blk t) r) 0 := by blk_ext [ScatVal.idx t]
  exact (congrArg (Vs m c main_v20_0) e).trans (congrFun (logits_in m c h) _)

theorem b3 (h : Whole.EdgesOk m) (t : Fin cfg2.N) (r : Fin 2000) (j : Fin 60) : (Scat.blockAt (Vs m) c 3 t : FVec Ideal S2000x60 .f32) (ix2 r j) = (NodeArr.net m c).value (at2 (blk t) r) j := by
  have e : (win2_3.blk t).view.emb (ix2 r j) = ix2 (at2 (blk t) r) j := by blk_ext [ScatVal.idx t]
  exact (congrArg (Vs m c main_v20_1) e).trans (congrFun (values_in m c h) _)

theorem rows_zero (h : Whole.EdgesOk m) (t : Fin cfg2.N) (r : Fin 2000) : ScatVal.rowsAt (Vs m) c t (ix2 r 0) = (NodeArr.net m c).weight (at2 (blk t) r) := by
  refine (ScatVal.pay2_zero _ _ _ r).trans ?_
  rw [b1 m c h t, b2 m c h t r]
  rfl

theorem rows_succ (h : Whole.EdgesOk m) (t : Fin cfg2.N) (r : Fin 2000) (j : Fin 60) :
    ScatVal.rowsAt (Vs m) c t (ix2 r ⟨j.val + 1, by omega⟩) = (NodeArr.net m c).weight (at2 (blk t) r) * (NodeArr.net m c).value (at2 (blk t) r) j := by
  refine (ScatVal.pay2_succ _ _ _ r j).trans ?_
  rw [b1 m c h t, b2 m c h t r, b3 m c h t r j]
  rfl

/-- A column's total, over all edges. -/
theorem total_of (n : Fin 10000) (j : Fin 64) (g : Fin 160000 → EReal) (hg : ∀ t r, ScatVal.rowsAt (Vs m) c t (ix2 r j) = g (at2 (blk t) r)) :
    ScatVal.total (Vs m) c n j = ∑ e, if ((NodeArr.net m c).dst e).toNat = n.val then g e else 0 := by
  unfold ScatVal.total
  have hN : cfg2.N = 80 := N_2
  refine Fin.sum_mul_add_congr (fun t r hl => ?_) (by rw [hN])
  unfold ScatVal.put
  rw [b0 m c t r, hg t r]

theorem out_at (h : Whole.EdgesOk m) (hD : Whole.DstOk m) (n : Fin 10000) (j : Fin 60) :
    (V11 m (Whole.outsC m hD) c (Proc.devRef .tc main_v25) : FVec Ideal S10000x60 .f32) (ix2 n j) = (NodeArr.net m c).out n j := by
  refine (congrFun (v25_eq (V10 m (Whole.outsC m hD) c)) _).trans ((slice_at _ n j).trans ?_)
  have e24 : V10 m (Whole.outsC m hD) c (Proc.devRef .tc main_v24) = ScatVal.quotients (Vs m) c := by
    refine Eq.trans ?_ ((Whole.outsC_out m hD 10 c).trans (ScatVal.out_arr (Vs m) hD c))
    simp only [V10, Function.update_self]
  rw [e24, Net.out_eq]
  show Ideal.div (ScatVal.total (Vs m) c n ⟨j.val + 1, _⟩) (ScatVal.total (Vs m) c n 0 + Edge.lit 0x3089705F#32) = _
  rw [total_of m c n ⟨j.val + 1, by omega⟩ (fun e => (NodeArr.net m c).weight e * (NodeArr.net m c).value e j) fun t r => rows_succ m c h t r j,
    total_of m c n 0 (NodeArr.net m c).weight (rows_zero m c h)]
  rfl

end Cert.KernelIdeal.KernOut
end
-- ==== Proof.Value.lean ====
module

public import proofs.«01_k».proof.Defs
public import proofs.«01_k».proof.Proof.Gen.Pre_in_range
public import proofs.«01_k».proof.Proof.Range
public import proofs.«01_k».proof.Proof.RefEdge
public import proofs.«01_k».proof.Proof.KernelIdeal.KernOut

/-!
# Kernel and reference agree

From equal arguments whose edge list names nodes, both programs leave in their result what every node receives.
-/

@[expose] public section

set_option maxRecDepth 16384

noncomputable section

namespace Cert.Value

open Idealize.ShloMosaic Idealize.SL.Sem

theorem algebraic : Cert.algebraic_KernelIdeal_ReferenceIdeal (hKernelIdeal := Cert.KernelIdeal.Gen.facts)
    (hReferenceIdeal := Cert.ReferenceIdeal.Gen.facts) (hPre_in_range := Cert.Pre_in_range.Gen.facts) := by
  letI : Cert.Pre_in_range.Facts := Cert.Pre_in_range.Gen.facts
  intro m g m' g' hpre hagree
  have hE : Cert.KernelIdeal.Whole.EdgesOk m := fun c j => Cert.Range.entry_lt _ _ _ _ _ _ _ _ _ _ (hpre c) j
  have hD := Cert.KernelIdeal.Whole.dstOk_of_edges m hE
  refine ⟨fun c => Cert.KernelIdeal.Gen.V11 m (Cert.KernelIdeal.Whole.outsC m hD) c (Proc.devRef .tc Cert.KernelIdeal.main_v25),
    (θ_run Cert.KernelIdeal.defs _ _).mono (fun _ hr => hr.1) (Cert.KernelIdeal.Whole.run_args m g hD),
    (θ_run Cert.ReferenceIdeal.defs _ _).mono (fun r hr c => ⟨(hr c).1.trans ?_, (hr c).2⟩) (Cert.ReferenceIdeal.Value.run (F := Ideal) m' g')⟩
  obtain ⟨a0, a1, a2, a3, a4, a5, a6, a7, a8, a9⟩ := hagree c
  have hnet : Cert.ReferenceIdeal.Val.net (StableHlo.launchContents m' c) = Cert.KernelIdeal.NodeArr.net m c := by
    unfold Cert.ReferenceIdeal.Val.net Cert.KernelIdeal.NodeArr.net
    rw [Net.mk.injEq]
    exact ⟨funext fun n => funext fun d => congrFun a0 (ix2 n d), funext fun n => funext fun d => congrFun a1 (ix2 n d),
      funext fun e => congrFun a2 (ix2 0 e), funext fun e => congrFun a2 (ix2 1 e),
      funext fun n => funext fun d => congrFun a3 (ix2 n d), funext fun n => funext fun d => congrFun a4 (ix2 n d),
      funext fun n => funext fun d => congrFun a5 (ix2 n d), funext fun n => funext fun d => congrFun a6 (ix2 n d),
      funext fun n => funext fun d => congrFun a7 (ix2 n d), funext fun n => funext fun d => congrFun a8 (ix2 n d),
      funext fun n => funext fun d => congrFun a9 (ix2 n d)⟩
  funext y
  obtain ⟨n, j, rfl⟩ : ∃ (n : Fin 10000) (j : Fin 60), y = ix2 n j := ⟨_, _, eq_ix2 y⟩
  refine (Cert.ReferenceIdeal.Val.out_at (StableHlo.launchContents m' c) (fun e => by rw [hnet]; exact Cert.KernelIdeal.HostIn.src_lt m c hE e)
    (fun e => by rw [hnet]; exact Cert.KernelIdeal.HostIn.dst_lt m c hE e) n j).trans ?_
  rw [hnet]
  exact (Cert.KernelIdeal.KernOut.out_at m c hE hD n j).symm

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_in_range
public import proofs.«01_k».proof.Proof.Kernel.InRange
public import proofs.«01_k».proof.Proof.KernelIdeal.InRange
public import proofs.«01_k».proof.Proof.Range
public import proofs.«01_k».proof.Proof.Gen.ReferenceIdeal.Run
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The precondition of the kernel at the bits: every entry of its edge list names a node. -/
theorem edges_kernel [Cert.Pre_in_range.Facts] (m : (ℓ : Loc Cert.Kernel.nD Cert.Kernel.τ Cert.Kernel.sig) → Buf (Elt Bits) ℓ) (h : Cert.Pre_Kernel m) :
    Cert.Kernel.Whole.EdgesOk m := fun c j => Cert.Range.entry_lt _ _ _ _ _ _ _ _ _ _ (h c) j

/-- The same of the kernel at the reals. -/
theorem edges_ideal [Cert.Pre_in_range.Facts] (m : (ℓ : Loc Cert.KernelIdeal.nD Cert.KernelIdeal.τ Cert.KernelIdeal.sig) → Buf (Elt Ideal) ℓ) (h : Cert.Pre_KernelIdeal m) :
    Cert.KernelIdeal.Whole.EdgesOk m := fun c j => Cert.Range.entry_lt _ _ _ _ _ _ _ _ _ _ (h c) j

/-- The reference's run read at its arguments; it declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts, Cert.Pre_in_range.Gen.facts,
  -- the kernel's frame at the bits
  fun m ρ h => (θ_run Cert.Kernel.defs _ _).mono (fun _ hr => ⟨fun c => (hr.1 c).2, hr.2⟩)
    (Cert.Kernel.Whole.run_args m ρ (Cert.Kernel.Whole.dstOk_of_edges m (edges_kernel m h))),
  -- and at the reals
  fun m ρ h => (θ_run Cert.KernelIdeal.defs _ _).mono (fun _ hr => ⟨fun c => (hr.1 c).2, hr.2⟩)
    (Cert.KernelIdeal.Whole.run_args m ρ (Cert.KernelIdeal.Whole.dstOk_of_edges m (edges_ideal m h))),
  -- the reference's frame, without and with the range
  frame_reference,
  fun m ρ _ => frame_reference m ρ trivial,
  -- no operation was rewritten
  trivial
,
  Cert.Value.algebraic⟩

end Cert.Proof

end
